-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![8, 1024, 1024]⟩ ⟨3, ![64, 1024, 1024]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2048x1 : Shape := ⟨2, ![2048, 1]⟩
abbrev S8x1024x1024 : Shape := ⟨3, ![8, 1024, 1024]⟩
abbrev S256x1024 : Shape := ⟨2, ![256, 1024]⟩
abbrev S2048x256 : Shape := ⟨2, ![2048, 256]⟩
abbrev S8x256x1024 : Shape := ⟨3, ![8, 256, 1024]⟩
abbrev S2x1024x1024 : Shape := ⟨3, ![2, 1024, 1024]⟩
abbrev S2 : Shape := ⟨1, ![2]⟩
abbrev S7 : Shape := ⟨1, ![7]⟩
abbrev S8 : Shape := ⟨1, ![8]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S2048x64 : Shape := ⟨2, ![2048, 64]⟩
abbrev S1x64 : Shape := ⟨2, ![1, 64]⟩
abbrev S2047x64 : Shape := ⟨2, ![2047, 64]⟩
abbrev S2x64 : Shape := ⟨2, ![2, 64]⟩
abbrev S2046x64 : Shape := ⟨2, ![2046, 64]⟩
abbrev S4x64 : Shape := ⟨2, ![4, 64]⟩
abbrev S2044x64 : Shape := ⟨2, ![2044, 64]⟩
abbrev S8x64 : Shape := ⟨2, ![8, 64]⟩
abbrev S2040x64 : Shape := ⟨2, ![2040, 64]⟩
abbrev S16x64 : Shape := ⟨2, ![16, 64]⟩
abbrev S2032x64 : Shape := ⟨2, ![2032, 64]⟩
abbrev S32x64 : Shape := ⟨2, ![32, 64]⟩
abbrev S2016x64 : Shape := ⟨2, ![2016, 64]⟩
abbrev S64x64 : Shape := ⟨2, ![64, 64]⟩
abbrev S1984x64 : Shape := ⟨2, ![1984, 64]⟩
abbrev S128x64 : Shape := ⟨2, ![128, 64]⟩
abbrev S1920x64 : Shape := ⟨2, ![1920, 64]⟩
abbrev S256x64 : Shape := ⟨2, ![256, 64]⟩
abbrev S1792x64 : Shape := ⟨2, ![1792, 64]⟩
abbrev S512x64 : Shape := ⟨2, ![512, 64]⟩
abbrev S1536x64 : Shape := ⟨2, ![1536, 64]⟩
abbrev S1024x64 : Shape := ⟨2, ![1024, 64]⟩
abbrev S2048 : Shape := ⟨1, ![2048]⟩
abbrev S32x1024 : Shape := ⟨2, ![32, 1024]⟩
abbrev S1x256x1024 : Shape := ⟨3, ![1, 256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1, .i32⟩
  | .hbm, ⟨2, _⟩ => ⟨S8x1024x1024, .f32⟩
  | .hbm, ⟨3, _⟩ => ⟨S256x1024, .f32⟩
  | .local _ .vmem, ⟨0, _⟩ => ⟨S2048x1024, .f32⟩
  | .local _ .vmem, ⟨1, _⟩ => ⟨S2048x1, .i32⟩
  | .local _ .vmem, ⟨2, _⟩ => ⟨S256x1024, .f32⟩
  | .local _ .vmem, ⟨3, _⟩ => ⟨S2048x256, .f32⟩
  | .local _ .vmem, ⟨4, _⟩ => ⟨S256x1024, .f32⟩
  | .local _ .vmem, ⟨5, _⟩ => ⟨S2048x1024, .f32⟩
  | .local _ .vmem, ⟨6, _⟩ => ⟨S8x256x1024, .f32⟩
  | .local _ .vmem, ⟨7, _⟩ => ⟨S2x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_256 : BitVec 32 := 0#32
  let c0_i32_257 : BitVec 32 := 0#32
  ![v2.toNat, 0, 0]
def k0_off3 (d0 : Dev nD) (c1_i32_246 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v340 : BitVec 32 := Scalar.addi v2 c1_i32_246
  let c8_i32_247 : BitVec 32 := 8#32
  let c0_i32_248 : BitVec 32 := 0#32
  let v341 : BitVec 1 := Scalar.cmpi .eq c8_i32_247 c0_i32_248
  let c1_i32_249 : BitVec 32 := 1#32
  let v342 : BitVec 32 := Scalar.select v341 c1_i32_249 c8_i32_247
  let v343 : BitVec 32 := Scalar.remsi v340 v342
  let c0_i32_251 : BitVec 32 := 0#32
  let v345 : BitVec 1 := Scalar.cmpi .slt v343 c0_i32_251
  let c0_i32_252 : BitVec 32 := 0#32
  let v346 : BitVec 1 := Scalar.cmpi .slt v342 c0_i32_252
  let v347 : BitVec 1 := Scalar.xori v345 v346
  let c0_i32_250 : BitVec 32 := 0#32
  let v344 : BitVec 1 := Scalar.cmpi .ne v343 c0_i32_250
  let v348 : BitVec 1 := Scalar.andi v347 v344
  let v349 : BitVec 32 := Scalar.addi v343 v342
  let v350 : BitVec 32 := Scalar.select v348 v349 v343
  let c256_i32 : BitVec 32 := 256#32
  let v351 : BitVec 32 := Scalar.muli v350 c256_i32
  let c0_i32_258 : BitVec 32 := 0#32
  ![v351.toNat, 0]
def k0_dev8 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_246 : BitVec 32 := 1#32
  let v340 : BitVec 32 := Scalar.addi v2 c1_i32_246
  let c8_i32_247 : BitVec 32 := 8#32
  let c0_i32_248 : BitVec 32 := 0#32
  let v341 : BitVec 1 := Scalar.cmpi .eq c8_i32_247 c0_i32_248
  let c1_i32_249 : BitVec 32 := 1#32
  let v342 : BitVec 32 := Scalar.select v341 c1_i32_249 c8_i32_247
  let v343 : BitVec 32 := Scalar.remsi v340 v342
  let c0_i32_251 : BitVec 32 := 0#32
  let v345 : BitVec 1 := Scalar.cmpi .slt v343 c0_i32_251
  let c0_i32_252 : BitVec 32 := 0#32
  let v346 : BitVec 1 := Scalar.cmpi .slt v342 c0_i32_252
  let v347 : BitVec 1 := Scalar.xori v345 v346
  let c0_i32_250 : BitVec 32 := 0#32
  let v344 : BitVec 1 := Scalar.cmpi .ne v343 c0_i32_250
  let v348 : BitVec 1 := Scalar.andi v347 v344
  let v349 : BitVec 32 := Scalar.addi v343 v342
  let v350 : BitVec 32 := Scalar.select v348 v349 v343
  let c1_i32_254 : BitVec 32 := 1#32
  let v352 : BitVec 32 := Scalar.muli v350 c1_i32_254
  let v353 : BitVec 32 := Scalar.addi c0_i32_255 v352
  v353.toNat
def k0_dev9 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_259 : BitVec 32 := 2#32
  let v361 : BitVec 32 := Scalar.addi v2 c2_i32_259
  let c8_i32_260 : BitVec 32 := 8#32
  let c0_i32_261 : BitVec 32 := 0#32
  let v362 : BitVec 1 := Scalar.cmpi .eq c8_i32_260 c0_i32_261
  let c1_i32_262 : BitVec 32 := 1#32
  let v363 : BitVec 32 := Scalar.select v362 c1_i32_262 c8_i32_260
  let v364 : BitVec 32 := Scalar.remsi v361 v363
  let c0_i32_264 : BitVec 32 := 0#32
  let v366 : BitVec 1 := Scalar.cmpi .slt v364 c0_i32_264
  let c0_i32_265 : BitVec 32 := 0#32
  let v367 : BitVec 1 := Scalar.cmpi .slt v363 c0_i32_265
  let v368 : BitVec 1 := Scalar.xori v366 v367
  let c0_i32_263 : BitVec 32 := 0#32
  let v365 : BitVec 1 := Scalar.cmpi .ne v364 c0_i32_263
  let v369 : BitVec 1 := Scalar.andi v368 v365
  let v370 : BitVec 32 := Scalar.addi v364 v363
  let v371 : BitVec 32 := Scalar.select v369 v370 v364
  let c1_i32_268 : BitVec 32 := 1#32
  let v373 : BitVec 32 := Scalar.muli v371 c1_i32_268
  let v374 : BitVec 32 := Scalar.addi c0_i32_269 v373
  v374.toNat
def k0_dev10 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_273 : BitVec 32 := 3#32
  let v382 : BitVec 32 := Scalar.addi v2 c3_i32_273
  let c8_i32_274 : BitVec 32 := 8#32
  let c0_i32_275 : BitVec 32 := 0#32
  let v383 : BitVec 1 := Scalar.cmpi .eq c8_i32_274 c0_i32_275
  let c1_i32_276 : BitVec 32 := 1#32
  let v384 : BitVec 32 := Scalar.select v383 c1_i32_276 c8_i32_274
  let v385 : BitVec 32 := Scalar.remsi v382 v384
  let c0_i32_278 : BitVec 32 := 0#32
  let v387 : BitVec 1 := Scalar.cmpi .slt v385 c0_i32_278
  let c0_i32_279 : BitVec 32 := 0#32
  let v388 : BitVec 1 := Scalar.cmpi .slt v384 c0_i32_279
  let v389 : BitVec 1 := Scalar.xori v387 v388
  let c0_i32_277 : BitVec 32 := 0#32
  let v386 : BitVec 1 := Scalar.cmpi .ne v385 c0_i32_277
  let v390 : BitVec 1 := Scalar.andi v389 v386
  let v391 : BitVec 32 := Scalar.addi v385 v384
  let v392 : BitVec 32 := Scalar.select v390 v391 v385
  let c1_i32_282 : BitVec 32 := 1#32
  let v394 : BitVec 32 := Scalar.muli v392 c1_i32_282
  let v395 : BitVec 32 := Scalar.addi c0_i32_283 v394
  v395.toNat
def k0_dev11 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_287 : BitVec 32 := 4#32
  let v403 : BitVec 32 := Scalar.addi v2 c4_i32_287
  let c8_i32_288 : BitVec 32 := 8#32
  let c0_i32_289 : BitVec 32 := 0#32
  let v404 : BitVec 1 := Scalar.cmpi .eq c8_i32_288 c0_i32_289
  let c1_i32_290 : BitVec 32 := 1#32
  let v405 : BitVec 32 := Scalar.select v404 c1_i32_290 c8_i32_288
  let v406 : BitVec 32 := Scalar.remsi v403 v405
  let c0_i32_292 : BitVec 32 := 0#32
  let v408 : BitVec 1 := Scalar.cmpi .slt v406 c0_i32_292
  let c0_i32_293 : BitVec 32 := 0#32
  let v409 : BitVec 1 := Scalar.cmpi .slt v405 c0_i32_293
  let v410 : BitVec 1 := Scalar.xori v408 v409
  let c0_i32_291 : BitVec 32 := 0#32
  let v407 : BitVec 1 := Scalar.cmpi .ne v406 c0_i32_291
  let v411 : BitVec 1 := Scalar.andi v410 v407
  let v412 : BitVec 32 := Scalar.addi v406 v405
  let v413 : BitVec 32 := Scalar.select v411 v412 v406
  let c1_i32_296 : BitVec 32 := 1#32
  let v415 : BitVec 32 := Scalar.muli v413 c1_i32_296
  let v416 : BitVec 32 := Scalar.addi c0_i32_297 v415
  v416.toNat
def k0_dev12 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_301 : BitVec 32 := 5#32
  let v424 : BitVec 32 := Scalar.addi v2 c5_i32_301
  let c8_i32_302 : BitVec 32 := 8#32
  let c0_i32_303 : BitVec 32 := 0#32
  let v425 : BitVec 1 := Scalar.cmpi .eq c8_i32_302 c0_i32_303
  let c1_i32_304 : BitVec 32 := 1#32
  let v426 : BitVec 32 := Scalar.select v425 c1_i32_304 c8_i32_302
  let v427 : BitVec 32 := Scalar.remsi v424 v426
  let c0_i32_306 : BitVec 32 := 0#32
  let v429 : BitVec 1 := Scalar.cmpi .slt v427 c0_i32_306
  let c0_i32_307 : BitVec 32 := 0#32
  let v430 : BitVec 1 := Scalar.cmpi .slt v426 c0_i32_307
  let v431 : BitVec 1 := Scalar.xori v429 v430
  let c0_i32_305 : BitVec 32 := 0#32
  let v428 : BitVec 1 := Scalar.cmpi .ne v427 c0_i32_305
  let v432 : BitVec 1 := Scalar.andi v431 v428
  let v433 : BitVec 32 := Scalar.addi v427 v426
  let v434 : BitVec 32 := Scalar.select v432 v433 v427
  let c1_i32_310 : BitVec 32 := 1#32
  let v436 : BitVec 32 := Scalar.muli v434 c1_i32_310
  let v437 : BitVec 32 := Scalar.addi c0_i32_311 v436
  v437.toNat
def k0_dev13 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_315 : BitVec 32 := 6#32
  let v445 : BitVec 32 := Scalar.addi v2 c6_i32_315
  let c8_i32_316 : BitVec 32 := 8#32
  let c0_i32_317 : BitVec 32 := 0#32
  let v446 : BitVec 1 := Scalar.cmpi .eq c8_i32_316 c0_i32_317
  let c1_i32_318 : BitVec 32 := 1#32
  let v447 : BitVec 32 := Scalar.select v446 c1_i32_318 c8_i32_316
  let v448 : BitVec 32 := Scalar.remsi v445 v447
  let c0_i32_320 : BitVec 32 := 0#32
  let v450 : BitVec 1 := Scalar.cmpi .slt v448 c0_i32_320
  let c0_i32_321 : BitVec 32 := 0#32
  let v451 : BitVec 1 := Scalar.cmpi .slt v447 c0_i32_321
  let v452 : BitVec 1 := Scalar.xori v450 v451
  let c0_i32_319 : BitVec 32 := 0#32
  let v449 : BitVec 1 := Scalar.cmpi .ne v448 c0_i32_319
  let v453 : BitVec 1 := Scalar.andi v452 v449
  let v454 : BitVec 32 := Scalar.addi v448 v447
  let v455 : BitVec 32 := Scalar.select v453 v454 v448
  let c1_i32_324 : BitVec 32 := 1#32
  let v457 : BitVec 32 := Scalar.muli v455 c1_i32_324
  let v458 : BitVec 32 := Scalar.addi c0_i32_325 v457
  v458.toNat
def k0_dev14 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_329 : BitVec 32 := 7#32
  let v466 : BitVec 32 := Scalar.addi v2 c7_i32_329
  let c8_i32_330 : BitVec 32 := 8#32
  let c0_i32_331 : BitVec 32 := 0#32
  let v467 : BitVec 1 := Scalar.cmpi .eq c8_i32_330 c0_i32_331
  let c1_i32_332 : BitVec 32 := 1#32
  let v468 : BitVec 32 := Scalar.select v467 c1_i32_332 c8_i32_330
  let v469 : BitVec 32 := Scalar.remsi v466 v468
  let c0_i32_334 : BitVec 32 := 0#32
  let v471 : BitVec 1 := Scalar.cmpi .slt v469 c0_i32_334
  let c0_i32_335 : BitVec 32 := 0#32
  let v472 : BitVec 1 := Scalar.cmpi .slt v468 c0_i32_335
  let v473 : BitVec 1 := Scalar.xori v471 v472
  let c0_i32_333 : BitVec 32 := 0#32
  let v470 : BitVec 1 := Scalar.cmpi .ne v469 c0_i32_333
  let v474 : BitVec 1 := Scalar.andi v473 v470
  let v475 : BitVec 32 := Scalar.addi v469 v468
  let v476 : BitVec 32 := Scalar.select v474 v475 v469
  let c1_i32_338 : BitVec 32 := 1#32
  let v478 : BitVec 32 := Scalar.muli v476 c1_i32_338
  let v479 : BitVec 32 := Scalar.addi c0_i32_339 v478
  v479.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_343 : BitVec 32 := 256#32
  let v487 : BitVec 32 := Scalar.muli v2 c256_i32_343
  let v488 : Index := Scalar.indexCast v487
  let c0_344 : Index := 0#32
  ![v488.toNat, 0]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v491 : Index := Scalar.indexCast v2
  let c0_345 : Index := 0#32
  let c0_346 : Index := 0#32
  ![v491.toNat, 0, 0]
def k0_off6 (d0 : Dev nD) (c1_i32_347 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v495 : BitVec 32 := Scalar.addi v2 c1_i32_347
  let c8_i32_348 : BitVec 32 := 8#32
  let c0_i32_349 : BitVec 32 := 0#32
  let v496 : BitVec 1 := Scalar.cmpi .eq c8_i32_348 c0_i32_349
  let c1_i32_350 : BitVec 32 := 1#32
  let v497 : BitVec 32 := Scalar.select v496 c1_i32_350 c8_i32_348
  let v498 : BitVec 32 := Scalar.remsi v495 v497
  let c0_i32_352 : BitVec 32 := 0#32
  let v500 : BitVec 1 := Scalar.cmpi .slt v498 c0_i32_352
  let c0_i32_353 : BitVec 32 := 0#32
  let v501 : BitVec 1 := Scalar.cmpi .slt v497 c0_i32_353
  let v502 : BitVec 1 := Scalar.xori v500 v501
  let c0_i32_351 : BitVec 32 := 0#32
  let v499 : BitVec 1 := Scalar.cmpi .ne v498 c0_i32_351
  let v503 : BitVec 1 := Scalar.andi v502 v499
  let v504 : BitVec 32 := Scalar.addi v498 v497
  let v505 : BitVec 32 := Scalar.select v503 v504 v498
  ![v505.toNat]
def k0_off7 (d0 : Dev nD) (c1_i32_347 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v495 : BitVec 32 := Scalar.addi v2 c1_i32_347
  let c8_i32_348 : BitVec 32 := 8#32
  let c0_i32_349 : BitVec 32 := 0#32
  let v496 : BitVec 1 := Scalar.cmpi .eq c8_i32_348 c0_i32_349
  let c1_i32_350 : BitVec 32 := 1#32
  let v497 : BitVec 32 := Scalar.select v496 c1_i32_350 c8_i32_348
  let v498 : BitVec 32 := Scalar.remsi v495 v497
  let c0_i32_352 : BitVec 32 := 0#32
  let v500 : BitVec 1 := Scalar.cmpi .slt v498 c0_i32_352
  let c0_i32_353 : BitVec 32 := 0#32
  let v501 : BitVec 1 := Scalar.cmpi .slt v497 c0_i32_353
  let v502 : BitVec 1 := Scalar.xori v500 v501
  let c0_i32_351 : BitVec 32 := 0#32
  let v499 : BitVec 1 := Scalar.cmpi .ne v498 c0_i32_351
  let v503 : BitVec 1 := Scalar.andi v502 v499
  let v504 : BitVec 32 := Scalar.addi v498 v497
  let v505 : BitVec 32 := Scalar.select v503 v504 v498
  let c0_i32_357 : BitVec 32 := 0#32
  let c0_i32_358 : BitVec 32 := 0#32
  ![v505.toNat, 0, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S2048x1 : Shape := ⟨2, ![2048, 1]⟩
abbrev S64x1024x1024 : Shape := ⟨3, ![64, 1024, 1024]⟩
abbrev S64 : Shape := ⟨1, ![64]⟩
abbrev S1x64 : Shape := ⟨2, ![1, 64]⟩
abbrev S2048x64 : Shape := ⟨2, ![2048, 64]⟩
abbrev S_ : Shape := ⟨0, ![]⟩
abbrev S2048x64x1024 : Shape := ⟨3, ![2048, 64, 1024]⟩
abbrev S2048x64x1 : Shape := ⟨3, ![2048, 64, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1, .i32⟩
  | .hbm, ⟨2, _⟩ => ⟨S64x1024x1024, .f32⟩
  | .hbm, ⟨3, _⟩ => ⟨S64, .i32⟩
  | .hbm, ⟨4, _⟩ => ⟨S1x64, .i32⟩
  | .hbm, ⟨5, _⟩ => ⟨S2048x64, .i32⟩
  | .hbm, ⟨6, _⟩ => ⟨S2048x64, .i32⟩
  | .hbm, ⟨7, _⟩ => ⟨S2048x64, .i1⟩
  | .hbm, ⟨8, _⟩ => ⟨S2048x64, .i32⟩
  | .hbm, ⟨9, _⟩ => ⟨S_, .i32⟩
  | .hbm, ⟨10, _⟩ => ⟨S_, .i32⟩
  | .hbm, ⟨11, _⟩ => ⟨S2048x64, .i32⟩
  | .hbm, ⟨12, _⟩ => ⟨S2048x64, .i32⟩
  | .hbm, ⟨13, _⟩ => ⟨S2048x64, .i32⟩
  | .hbm, ⟨14, _⟩ => ⟨S_, .i32⟩
  | .hbm, ⟨15, _⟩ => ⟨S2048x64, .i32⟩
  | .hbm, ⟨16, _⟩ => ⟨S2048x64, .i1⟩
  | .hbm, ⟨17, _⟩ => ⟨S2048x64, .i1⟩
  | .hbm, ⟨18, _⟩ => ⟨S2048x64x1024, .f32⟩
  | .hbm, ⟨19, _⟩ => ⟨S2048x64x1, .i1⟩
  | .hbm, ⟨20, _⟩ => ⟨S_, .f32⟩
  | .hbm, ⟨21, _⟩ => ⟨S_, .f32⟩
  | .hbm, ⟨22, _⟩ => ⟨S2048x64x1024, .i1⟩
  | .hbm, ⟨23, _⟩ => ⟨S2048x64x1024, .f32⟩
  | .hbm, ⟨24, _⟩ => ⟨S2048x64x1024, .f32⟩
  | .hbm, ⟨25, _⟩ => ⟨S_, .f32⟩
  | .hbm, ⟨26, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_call0_c : Ref sig .tc := ⟨.hbm, 9, rfl⟩
abbrev main_call0_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Proof.Proto.lean ====
/-
# The kernel's memory and messages

What the eight devices say to each other, written down once: the buffers and the pieces of them that move, the
semaphores, and the contents every landing carries.

Device `c` computes `p`, its experts' contribution to all 2048 tokens, and sends the 256 rows of `p` that belong to
device `d` into slot `c` of `d`'s landing buffer, for each of the seven other devices. Before it sends, each device
tells every other, on the runtime's barrier semaphore, that its landing buffer may be written.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit
public import Idealize.ShloMosaic.Lib.ValueLayout
public import Idealize.ShloMosaic.Lib.Transfers
public import Idealize.ShloMosaic.Lib.Tactic

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the devices' rounds (duties named by a device), transfer counters -/

/-- The rounds of the barrier, send and receive semaphores; a duty is named by the device that pays it. -/
abbrev UB : Type := URounds (GSem nD τ sig) (Fin 8)
/-- The pipeline's rounds, the devices' rounds, and the counters of the local copies. -/
abbrev UU : Type := UR sig nD τ × (UB × Counters)

local notation "𝕄" => MT nD τ sig Unit (Elt F) ℕ UU ℕ

/-- The pipeline's part of the algebra. -/
abbrev EP : Emb (UR sig nD τ) (MT nD τ sig Unit (Elt F) ℕ UU ℕ) := embL
/-- The devices' rounds' part of the algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters' part of the algebra. -/
abbrev EC : UEmb Counters (MT nD τ sig Unit (Elt F) ℕ UU ℕ) := countersEmb (U := UU)

/-! ## The other devices -/

set_option backward.proofsInPublic true in
/-- The device `j + 1` places after `c` around the ring of eight. -/
def peer (c : Dev nD) (j : Fin 7) : Dev nD := ⟨(c.val + (j.val + 1)) % 8, Nat.mod_lt _ (by decide)⟩

theorem peer_ne (c : Dev nD) (j : Fin 7) : peer c j ≠ c := by revert c j; decide
theorem peer_inj (c : Dev nD) : Function.Injective (peer c) := by revert c; decide
/-- Every device but `c` is one of its seven peers. -/
theorem erase_eq_peers (c : Dev nD) : (Finset.univ.erase c : Finset (Dev nD)) = Finset.univ.map ⟨peer c, peer_inj c⟩ := by
  revert c; decide

/-! ### The printed device numbers and offsets -/

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 1 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 3 := by revert c; decide +kernel
theorem dev12_eq (c : Dev nD) : (⟨k0_dev12 c, k0_dev12_lt c⟩ : Dev nD) = peer c 4 := by revert c; decide +kernel
theorem dev13_eq (c : Dev nD) : (⟨k0_dev13 c, k0_dev13_lt c⟩ : Dev nD) = peer c 5 := by revert c; decide +kernel
theorem dev14_eq (c : Dev nD) : (⟨k0_dev14 c, k0_dev14_lt c⟩ : Dev nD) = peer c 6 := by revert c; decide +kernel

/-- The rows a transfer reads: those of the device it goes to. -/
theorem off3_eq (c : Dev nD) (j : Fin 7) : k0_off3 c (BitVec.ofNat 32 (1 + j.val)) = ![256 * (peer c j).val, 0] := by
  revert c j; decide +kernel
/-- The receive semaphore a wait is on: that of the device awaited. -/
theorem off6_eq (c : Dev nD) (j : Fin 7) : k0_off6 c (BitVec.ofNat 32 (1 + j.val)) = ![(peer c j).val] := by
  revert c j; decide +kernel
/-- The slot a wait names: that of the device awaited. -/
theorem off7_eq (c : Dev nD) (j : Fin 7) : k0_off7 c (BitVec.ofNat 32 (1 + j.val)) = ![(peer c j).val, 0, 0] := by
  revert c j; decide +kernel

/-! ## The semaphores -/

/-- The runtime's barrier semaphore. -/
abbrev barS : Sem sig := (SemArray.scalar (sig.barrier 0 rfl) : Sems sig S_).sem
set_option backward.proofsInPublic true in
/-- The semaphore of the copy into half `s` of the weight buffer. -/
def wS (s : Fin 2) : DmaSem sig := ⟨3 + s.val, by have := s.isLt; show 3 + s.val < 20; omega⟩
set_option backward.proofsInPublic true in
/-- The semaphore that counts what transfer `j` has sent. -/
def sendS (j : Fin 7) : DmaSem sig := ⟨5 + j.val, by have := j.isLt; show 5 + j.val < 20; omega⟩
set_option backward.proofsInPublic true in
/-- The semaphore that counts what has landed from device `q`. -/
def recvS (q : Fin 8) : DmaSem sig := ⟨12 + q.val, by have := q.isLt; show 12 + q.val < 20; omega⟩

theorem wS_eq {o : Fin 1 → ℕ} (h) (s : Fin 2) (ho : o = ![s.val]) :
    ((cc0_scratch5.slice (Rect.unit (s := S2) o S1.size h)).squeeze S_ squeezes_S1_S_).sem = wS s := by
  subst ho; revert s; decide
theorem sendS_eq {o : Fin 1 → ℕ} (h) (j : Fin 7) (ho : o = ![j.val]) :
    ((cc0_scratch6.slice (Rect.unit (s := S7) o S1.size h)).squeeze S_ squeezes_S1_S_).sem = sendS j := by
  subst ho; revert j; decide
theorem recvS_eq {o : Fin 1 → ℕ} (h) (q : Fin 8) (ho : o = ![q.val]) :
    ((cc0_scratch7.slice (Rect.unit (s := S8) o S1.size h)).squeeze S_ squeezes_S1_S_).sem = recvS q := by
  subst ho; revert q; decide

/-- What a semaphore is for. -/
inductive Role where
  | bar | send (j : Fin 7) | recv (q : Fin 8) | other
deriving DecidableEq

/-- The semaphore's use in the exchange. -/
def role : SemLoc sig → Role
  | .reg s => if s = barS then .bar else .other
  | .dma s => if h : 5 ≤ s.val ∧ s.val < 12 then .send ⟨s.val - 5, by omega⟩
      else if h' : 12 ≤ s.val then .recv ⟨s.val - 12, by have : s.val < 20 := s.isLt; omega⟩ else .other

theorem role_bar : role (.reg barS) = .bar := by decide
theorem role_send (j : Fin 7) : role (.dma (sendS j)) = .send j := by revert j; decide
theorem role_recv (q : Fin 8) : role (.dma (recvS q)) = .recv q := by revert q; decide
theorem role_w (s : Fin 2) : role (.dma (wS s)) = .other := by revert s; decide

abbrev barCell (c : Dev nD) : GSem nD τ sig := ((c : Thread nD τ), .reg barS)
abbrev sendCell (c : Dev nD) (j : Fin 7) : GSem nD τ sig := ((c : Thread nD τ), .dma (sendS j))
abbrev recvCell (c : Dev nD) (q : Fin 8) : GSem nD τ sig := ((c : Thread nD τ), .dma (recvS q))

end Cert.Moe

end
-- ==== Proof.Pieces.lean ====
/-
# The pieces of the buffers, and what they hold

The landing buffer is eight slots, `p` eight blocks of 256 rows, the weights eight matrices and the weight buffer two
halves. Each piece's elements, that the pieces partition their buffer, and the contents the run computes.
-/
module

public import proofs.«01_k».proof.Proof.Proto

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The pieces -/

abbrev xM : Memref sig .tc .vmem S2048x1024 .f32 := Memref.whole cc0_stg0_0
abbrev iM : Memref sig .tc .vmem S2048x1 .i32 := Memref.whole cc0_stg1_0
abbrev wM : Memref sig .tc .hbm S8x1024x1024 .f32 := Memref.whole main_arg2
abbrev oM : Memref sig .tc .vmem S256x1024 .f32 := Memref.whole cc0_stg2_0
abbrev gM : Memref sig .tc .vmem S2048x256 .f32 := Memref.whole cc0_scratch0
abbrev yM : Memref sig .tc .vmem S256x1024 .f32 := Memref.whole cc0_scratch1
abbrev pM : Memref sig .tc .vmem S2048x1024 .f32 := Memref.whole cc0_scratch2
abbrev rM : Memref sig .tc .vmem S8x256x1024 .f32 := Memref.whole cc0_scratch3
abbrev vM : Memref sig .tc .vmem S2x1024x1024 .f32 := Memref.whole cc0_scratch4

theorem slot_inb (q : Fin 8) : ∀ a, (![q.val, 0, 0] : Fin 3 → ℕ) a + S1x256x1024.size a ≤ S8x256x1024.size a := by
  revert q; decide
theorem blk_inb (d : Fin 8) : ∀ a, (![256 * d.val, 0] : Fin 2 → ℕ) a + S256x1024.size a ≤ S2048x1024.size a := by
  revert d; decide
theorem wgt_inb (k : Fin 8) : ∀ a, (![k.val, 0, 0] : Fin 3 → ℕ) a + S1x1024x1024.size a ≤ S8x1024x1024.size a := by
  revert k; decide
theorem half_inb (s : Fin 2) : ∀ a, (![s.val, 0, 0] : Fin 3 → ℕ) a + S1x1024x1024.size a ≤ S2x1024x1024.size a := by
  revert s; decide

/-- Slot `q` of the landing buffer. -/
abbrev slotM (q : Fin 8) : Memref sig .tc .vmem S256x1024 .f32 :=
  (rM.slice (Rect.unit (s := S8x256x1024) ![q.val, 0, 0] S1x256x1024.size (slot_inb q)) (fun _ => rfl)).squeeze S256x1024 squeezes_S1x256x1024_S256x1024
/-- The rows of `p` that belong to device `d`. -/
abbrev blkM (d : Fin 8) : Memref sig .tc .vmem S256x1024 .f32 :=
  pM.slice (Rect.unit (s := S2048x1024) ![256 * d.val, 0] S256x1024.size (blk_inb d)) (fun _ => rfl)
/-- The device's `k`-th weight matrix. -/
abbrev wgtM (k : Fin 8) : Memref sig .tc .hbm S1024x1024 .f32 :=
  (wM.slice (Rect.unit (s := S8x1024x1024) ![k.val, 0, 0] S1x1024x1024.size (wgt_inb k)) (fun _ => rfl)).squeeze S1024x1024 squeezes_S1x1024x1024_S1024x1024
/-- Half `s` of the weight buffer. -/
abbrev halfM (s : Fin 2) : Memref sig .tc .vmem S1024x1024 .f32 :=
  (vM.slice (Rect.unit (s := S2x1024x1024) ![s.val, 0, 0] S1x1024x1024.size (half_inb s)) (fun _ => rfl)).squeeze S1024x1024 squeezes_S1x1024x1024_S1024x1024

theorem slotM_eq {o : Fin 3 → ℕ} (h) (q : Fin 8) (ho : o = ![q.val, 0, 0]) :
    (rM.slice (Rect.unit (s := S8x256x1024) o S1x256x1024.size h) (fun _ => rfl)).squeeze S256x1024 squeezes_S1x256x1024_S256x1024 = slotM q := by
  subst ho; rfl
theorem blkM_eq {o : Fin 2 → ℕ} (h) (d : Fin 8) (ho : o = ![256 * d.val, 0]) :
    pM.slice (Rect.unit (s := S2048x1024) o S256x1024.size h) (fun _ => rfl) = blkM d := by
  subst ho; rfl

/-! ### Their elements -/

theorem mem_slot (q : Fin 8) (i : S8x256x1024.Idx) : i ∈ (slotM q).view.set ↔ (i 0).val = q.val := by
  rw [Memref.set_view_squeeze]
  refine (ValueKit.mem_set_slice_whole_iff cc0_scratch3 _ i Rect.mem_set_unit).trans ?_
  constructor
  · intro h; have := h 0; simp only [Matrix.cons_val_zero] at this
    have h1 : S1x256x1024.size 0 = 1 := rfl
    omega
  · intro h a
    have h1 := (i 1).isLt; have h2 := (i 2).isLt
    fin_cases a <;> simp [S1x256x1024, S8x256x1024, h] at * <;> omega
theorem mem_blk (d : Fin 8) (i : S2048x1024.Idx) : i ∈ (blkM d).view.set ↔ 256 * d.val ≤ (i 0).val ∧ (i 0).val < 256 * d.val + 256 := by
  refine (ValueKit.mem_set_slice_whole_iff cc0_scratch2 _ i Rect.mem_set_unit).trans ?_
  constructor
  · intro h; have := h 0; exact this
  · intro h a
    have h1 := (i 1).isLt
    fin_cases a
    · exact h
    · exact ⟨Nat.zero_le _, by simpa using h1⟩
theorem mem_wgt (k : Fin 8) (i : S8x1024x1024.Idx) : i ∈ (wgtM k).view.set ↔ (i 0).val = k.val := by
  rw [Memref.set_view_squeeze]
  refine (ValueKit.mem_set_slice_whole_iff main_arg2 _ i Rect.mem_set_unit).trans ?_
  constructor
  · intro h; have := h 0; simp only [Matrix.cons_val_zero] at this
    have h1 : S1x1024x1024.size 0 = 1 := rfl
    omega
  · intro h a
    have h1 := (i 1).isLt; have h2 := (i 2).isLt
    fin_cases a <;> simp [S1x1024x1024, S8x1024x1024, h] at * <;> omega
theorem mem_half (s : Fin 2) (i : S2x1024x1024.Idx) : i ∈ (halfM s).view.set ↔ (i 0).val = s.val := by
  rw [Memref.set_view_squeeze]
  refine (ValueKit.mem_set_slice_whole_iff cc0_scratch4 _ i Rect.mem_set_unit).trans ?_
  constructor
  · intro h; have := h 0; simp only [Matrix.cons_val_zero] at this
    have h1 : S1x1024x1024.size 0 = 1 := rfl
    omega
  · intro h a
    have h1 := (i 1).isLt; have h2 := (i 2).isLt
    fin_cases a <;> simp [S1x1024x1024, S2x1024x1024, h] at * <;> omega

/-- Where a slot's element lies in the landing buffer. -/
theorem slot_emb (q : Fin 8) (r : Fin 256) (h : Fin 1024) : (slotM q).view.emb (ix2 r h) = (ix3 q r h : S8x256x1024.Idx) := by
  show (View.whole cc0_scratch3).emb ((Rect.unit (s := S8x256x1024) ![q.val, 0, 0] S1x256x1024.size (slot_inb q)).emb (Shape.reshapeEquiv _ (ix2 r h))) = _
  rw [reshapeEquiv_ix2_1ab]
  funext a; apply Fin.ext
  refine (ValueKit.rect_emb_unit_val _ _ (slot_inb q) _ a).trans ?_
  fin_cases a <;> simp
theorem blk_emb (d : Fin 8) (r : Fin 256) (h : Fin 1024) :
    (blkM d).view.emb (ix2 r h) = (ix2 ⟨256 * d.val + r.val, by have := d.isLt; have := r.isLt; omega⟩ h : S2048x1024.Idx) := by
  funext a; apply Fin.ext
  refine (ValueKit.view_emb_slice_whole_unit_val cc0_scratch2 _ _ (blk_inb d) _ a).trans ?_
  fin_cases a <;> simp
theorem wgt_emb (k : Fin 8) (r h : Fin 1024) : (wgtM k).view.emb (ix2 r h) = (ix3 k r h : S8x1024x1024.Idx) := by
  show (View.whole main_arg2).emb ((Rect.unit (s := S8x1024x1024) ![k.val, 0, 0] S1x1024x1024.size (wgt_inb k)).emb (Shape.reshapeEquiv _ (ix2 r h))) = _
  rw [reshapeEquiv_ix2_1ab]
  funext a; apply Fin.ext
  refine (ValueKit.rect_emb_unit_val _ _ (wgt_inb k) _ a).trans ?_
  fin_cases a <;> simp
theorem half_emb (s : Fin 2) (r h : Fin 1024) : (halfM s).view.emb (ix2 r h) = (ix3 s r h : S2x1024x1024.Idx) := by
  show (View.whole cc0_scratch4).emb ((Rect.unit (s := S2x1024x1024) ![s.val, 0, 0] S1x1024x1024.size (half_inb s)).emb (Shape.reshapeEquiv _ (ix2 r h))) = _
  rw [reshapeEquiv_ix2_1ab]
  funext a; apply Fin.ext
  refine (ValueKit.rect_emb_unit_val _ _ (half_inb s) _ a).trans ?_
  fin_cases a <;> simp

end Cert.Moe

end
-- ==== Proof.Contents.lean ====
/-
# What the buffers hold

The contents the run computes on each device, as functions of the launch memory: the routing matrix `G`, the gathered
rows `XG`, their products with the weights `Y`, the contribution `P` to every token, the landing buffer `RC` with every
device's contribution to this device's tokens, and the result `outAt`.
-/
module

public import proofs.«01_k».proof.Proof.Pieces

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The tokens, as staged on device `c`. -/
def xstg (c : Dev nD) : (cc0_stg0_0 : Ref sig .tc).ty.Contents (Elt F) :=
  (win0_0.blk (0 : Fin 1)).view.read (Elt F) (m ((c : Thread nD τ).loc main_arg0))
/-- The tokens' experts, as staged on device `c`. -/
def istg (c : Dev nD) : (cc0_stg1_0 : Ref sig .tc).ty.Contents (Elt F) :=
  (win0_1.blk (0 : Fin 1)).view.read (Elt F) (m ((c : Thread nD τ).loc main_arg1))
/-- Device `c`'s `k`-th weight matrix. -/
def wv (c : Dev nD) (k : Fin 8) : Vec F S1x1024x1024 .f32 := fun i => m ((c : Thread nD τ).loc main_arg2) (ix3 k (i 1) (i 2))
/-- Either half of the weight buffer once device `c`'s `k`-th weight matrix has landed there. -/
def wbuf (c : Dev nD) (k : Fin 8) : (cc0_scratch4 : Ref sig .tc).ty.Contents (Elt F) :=
  fun i => m ((c : Thread nD τ).loc main_arg2) (ix3 k (i 1) (i 2))

/-- The device's number as the kernel computes it. -/
def dword (c : Dev nD) : BitVec 32 := Scalar.remsi (Scalar.divsi (Dev.word c) 1#32) 8#32

/-- Which token sits in which of the device's 256 slots, as computed. -/
def g181 (c : Dev nD) : FVec F S2048x256 .f32 :=
  k0_pay5 (dword c) (k0_pay1 (istg m c)) (k0_pay2 (istg m c)) (k0_pay3 (istg m c)) (k0_pay4 (istg m c))
/-- The same as stored. -/
def G (c : Dev nD) : (cc0_scratch0 : Ref sig .tc).ty.Contents (Elt F) := k0_pay6 (g181 m c)
/-- The tokens gathered into the device's slots. -/
def XG (c : Dev nD) : FVec F S256x1024 .f32 := k0_pay7 (g181 m c) (xstg m c)
/-- Expert `k`'s 32 slots, multiplied with its weights. -/
def ypay (c : Dev nD) (k : Fin 8) : FVec F S32x1024 .f32 :=
  match k with
  | 0 => k0_pay8 (g181 m c) (xstg m c) (wv m c 0)
  | 1 => k0_pay9 (XG m c) (wv m c 1)
  | 2 => k0_pay10 (XG m c) (wv m c 2)
  | 3 => k0_pay11 (XG m c) (wv m c 3)
  | 4 => k0_pay12 (XG m c) (wv m c 4)
  | 5 => k0_pay13 (XG m c) (wv m c 5)
  | 6 => k0_pay15 (k0_pay14 (XG m c) (wv m c 6))
  | 7 => k0_pay16 (XG m c) (wv m c 7)

set_option backward.proofsInPublic true in
/-- All 256 slots, multiplied. -/
def Y (c : Dev nD) : (cc0_scratch1 : Ref sig .tc).ty.Contents (Elt F) :=
  fun i => ypay m c ⟨(i 0).val / 32, by have h : (i 0).val < 256 := (i 0).isLt; omega⟩ (ix2 ⟨(i 0).val % 32, Nat.mod_lt _ (by decide)⟩ (i 1))
/-- The device's contribution to all tokens. -/
def P (c : Dev nD) : (cc0_scratch2 : Ref sig .tc).ty.Contents (Elt F) := k0_pay17 (G m c) (Y m c)

set_option backward.proofsInPublic true in
/-- Row `r` of device `d`'s tokens among all the tokens. -/
def tokRow (d : Fin 8) (r : Fin 256) : Fin 2048 := ⟨256 * d.val + r.val, by have := d.isLt; have := r.isLt; omega⟩

/-- Device `c`'s landing buffer when every contribution has landed: slot `q` holds what device `q` computed for `c`'s tokens. -/
def RC (c : Dev nD) : (cc0_scratch3 : Ref sig .tc).ty.Contents (Elt F) := fun i => P m (i 0) (ix2 (tokRow c (i 1)) (i 2))
/-- Slot `q` of it, as loaded. -/
def rv (c : Dev nD) (q : Fin 8) : Vec F S1x256x1024 .f32 := fun i => P m q (ix2 (tokRow c (i 1)) (i 2))
/-- The kernel's result on device `c`: the sum of the eight contributions. -/
def outAt (c : Dev nD) : (cc0_stg2_0 : Ref sig .tc).ty.Contents (Elt F) :=
  k0_pay19 (rv m c 0) (rv m c 1) (rv m c 2) (rv m c 3) (rv m c 4) (rv m c 5) (rv m c 6) (rv m c 7)

/-! ## What a copy leaves -/

omit [FloatOps F] in
/-- A copy leaves, on the elements it wrote, any contents that read the same through the destination. -/
theorem write_read_agree {κ κ' : Kind} {sp sp' : Space} {s : Shape} {e : EltTy} (v : View sig κ sp s e) (u : View sig κ' sp' s e)
    (fd : v.ty.Contents (Elt F)) (fs : u.ty.Contents (Elt F)) (g : v.ty.Contents (Elt F))
    (h : ∀ x, u.read (Elt F) fs x = v.read (Elt F) g x) :
    ∀ i ∈ v.set, v.write (Elt F) fd (u.read (Elt F) fs) Finset.univ i = g i := by
  intro i hi
  obtain ⟨x, -, rfl⟩ := Finset.mem_map.mp hi
  rw [View.write_emb_of_mem _ _ (Finset.mem_univ x), h, View.read_apply, cast_cast, cast_eq]

omit [FloatOps F] in
theorem read_slot (q : Fin 8) (f : (cc0_scratch3 : Ref sig .tc).ty.Contents (Elt F)) (r : Fin 256) (h : Fin 1024) :
    (slotM q).view.read (Elt F) f (ix2 r h) = f (ix3 q r h) := by
  rw [View.read_apply]; refine (cast_eq _ _).trans ?_; exact congrArg f (slot_emb q r h)
omit [FloatOps F] in
theorem read_blk (d : Fin 8) (f : (cc0_scratch2 : Ref sig .tc).ty.Contents (Elt F)) (r : Fin 256) (h : Fin 1024) :
    (blkM d).view.read (Elt F) f (ix2 r h) = f (ix2 (tokRow d r) h) := by
  rw [View.read_apply]; refine (cast_eq _ _).trans ?_; exact congrArg f (blk_emb d r h)
omit [FloatOps F] in
theorem read_wgt (k : Fin 8) (f : (main_arg2 : Ref sig .tc).ty.Contents (Elt F)) (r h : Fin 1024) :
    (wgtM k).view.read (Elt F) f (ix2 r h) = f (ix3 k r h) := by
  rw [View.read_apply]; refine (cast_eq _ _).trans ?_; exact congrArg f (wgt_emb k r h)
omit [FloatOps F] in
theorem read_half (s : Fin 2) (f : (cc0_scratch4 : Ref sig .tc).ty.Contents (Elt F)) (r h : Fin 1024) :
    (halfM s).view.read (Elt F) f (ix2 r h) = f (ix3 s r h) := by
  rw [View.read_apply]; refine (cast_eq _ _).trans ?_; exact congrArg f (half_emb s r h)

/-- What a transfer from `c` leaves in slot `c` of device `d`'s landing buffer. -/
theorem landed (c d : Dev nD) (fd : (cc0_scratch3 : Ref sig .tc).ty.Contents (Elt F)) :
    ∀ i ∈ (slotM c).view.set, (slotM c).view.write (Elt F) fd ((blkM d).view.read (Elt F) (P m c)) Finset.univ i = RC m d i :=
  write_read_agree (slotM c).view (blkM d).view fd (P m c) (RC m d) fun x => by
    obtain ⟨r, h, rfl⟩ : ∃ (r : Fin 256) (h : Fin 1024), x = ix2 r h := ⟨x 0, x 1, by funext a; fin_cases a <;> rfl⟩
    rw [read_slot, read_blk]; rfl
omit [FloatOps F] in
/-- What the copy of the `k`-th weight matrix leaves in half `s` of the weight buffer. -/
theorem landed_w (c : Dev nD) (k : Fin 8) (s : Fin 2) (fd : (cc0_scratch4 : Ref sig .tc).ty.Contents (Elt F)) :
    ∀ i ∈ (halfM s).view.set, (halfM s).view.write (Elt F) fd ((wgtM k).view.read (Elt F) (m ((c : Thread nD τ).loc main_arg2))) Finset.univ i
      = wbuf m c k i :=
  write_read_agree (halfM s).view (wgtM k).view fd _ (wbuf m c k) fun x => by
    obtain ⟨r, h, rfl⟩ : ∃ (r h : Fin 1024), x = ix2 r h := ⟨x 0, x 1, by funext a; fin_cases a <;> rfl⟩
    rw [read_half, read_wgt]; rfl

/-! ## Loads and stores of a piece -/

omit [FloatOps F] in
/-- A load of a rectangle of a whole buffer, at an index: the contents at the offset plus the index. -/
theorem readAt_unit (b : Ref sig .tc) (off size : Fin b.ty.shape.rank → ℕ) (inb) (f : b.ty.Contents (Elt F))
    (x : (Rect.unit off size inb).shape.Idx) (i : b.ty.shape.Idx) (hi : ∀ a, (i a).val = off a + (x a).val) :
    (Memref.whole b).view.readAt (Elt F) (Rect.unit off size inb).toLoadRect f x = f i := by
  show f ((Rect.unit off size inb).emb x) = f i
  congr 1; funext a; apply Fin.ext
  rw [hi a]; exact ValueKit.rect_emb_unit_val off size inb x a

omit [FloatOps F] in
theorem load_half (c : Dev nD) (k : Fin 8) (s : Fin 2) {o : Fin 3 → ℕ} (ho : o = ![s.val, 0, 0]) (h) :
    (Memref.whole cc0_scratch4).view.readAt (Elt F) (Rect.unit (s := S2x1024x1024) o S1x1024x1024.size h).toLoadRect (wbuf m c k) = wv m c k := by
  subst ho; funext x
  refine (readAt_unit cc0_scratch4 _ _ h _ x (ix3 s (x 1) (x 2)) fun a => ?_).trans rfl
  have h0 : (x 0).val = 0 := by have : (x 0).val < 1 := (x 0).isLt; omega
  fin_cases a <;> simp [h0]
theorem load_slot (c : Dev nD) (q : Fin 8) {o : Fin 3 → ℕ} (ho : o = ![q.val, 0, 0]) (h) :
    (Memref.whole cc0_scratch3).view.readAt (Elt F) (Rect.unit (s := S8x256x1024) o S1x256x1024.size h).toLoadRect (RC m c) = rv m c q := by
  subst ho; funext x
  refine (readAt_unit cc0_scratch3 _ _ h _ x (ix3 q (x 1) (x 2)) fun a => ?_).trans rfl
  have h0 : (x 0).val = 0 := by have : (x 0).val < 1 := (x 0).isLt; omega
  fin_cases a <;> simp [h0]

omit [FloatOps F] in
/-- A store to a rectangle of a whole buffer, at an index inside it. -/
theorem write_unit_in (b : Ref sig .tc) (off size : Fin b.ty.shape.rank → ℕ) (inb) (f : b.ty.Contents (Elt F))
    (w : (Rect.unit off size inb).shape.Idx → Elt F b.ty.elt)
    (x : (Rect.unit off size inb).shape.Idx) (i : b.ty.shape.Idx) (hi : ∀ a, (i a).val = off a + (x a).val) :
    ((Memref.whole b).access (Rect.unit off size inb)).write (Elt F) f w Finset.univ i = w x := by
  have e : i = ((Memref.whole b).access (Rect.unit off size inb)).emb x := by
    funext a; apply Fin.ext; rw [hi a]; exact (ValueKit.rect_emb_unit_val off size inb x a).symm
  rw [e, View.write_emb_of_mem _ _ (Finset.mem_univ x)]; rfl

omit [FloatOps F] in
/-- A store to a rectangle of a whole buffer leaves what lies outside it. -/
theorem write_unit_out (b : Ref sig .tc) (off size : Fin b.ty.shape.rank → ℕ) (inb) (f : b.ty.Contents (Elt F))
    (w : (Rect.unit off size inb).shape.Idx → Elt F b.ty.elt) (i : b.ty.shape.Idx) (a : Fin b.ty.shape.rank) (hi : (i a).val < off a) :
    ((Memref.whole b).access (Rect.unit off size inb)).write (Elt F) f w Finset.univ i = f i := by
  refine View.write_of_not_mem _ _ _ ?_
  intro hm
  obtain ⟨x, -, rfl⟩ := Finset.mem_map.mp hm
  have := ValueKit.rect_emb_unit_val off size inb x a
  have h2 : ((((Memref.whole b).access (Rect.unit off size inb)).emb x a : Fin _) : ℕ) = off a + x a := this
  omega

/-- The products are in place in the first `n` rows. -/
def YUpTo (c : Dev nD) (n : ℕ) (f : (cc0_scratch1 : Ref sig .tc).ty.Contents (Elt F)) : Prop := ∀ i : S256x1024.Idx, (i 0).val < n → f i = Y m c i

theorem YUpTo_zero (c : Dev nD) (f) : YUpTo m c 0 f := fun i h => absurd h (Nat.not_lt_zero _)
theorem YUpTo_all (c : Dev nD) (f) (h : YUpTo m c 256 f) : f = Y m c := funext fun i => h i (i 0).isLt

/-- Storing expert `k`'s rows extends the rows in place by 32. -/
theorem YUpTo_step (c : Dev nD) (k : Fin 8) {o : Fin 2 → ℕ} (ho : o = ![32 * k.val, 0]) (h) (f) (hf : YUpTo m c (32 * k.val) f) (w)
    (hw : w = ypay m c k) :
    YUpTo m c (32 * k.val + 32) (((Memref.whole cc0_scratch1).access (Rect.unit (s := S256x1024) o S32x1024.size h)).write (Elt F) f w Finset.univ) := by
  subst ho hw
  intro i hi
  by_cases hlt : (i 0).val < 32 * k.val
  · exact (write_unit_out cc0_scratch1 _ _ h f _ i (0 : Fin 2) hlt).trans (hf i hlt)
  · have hk := k.isLt
    refine (write_unit_in cc0_scratch1 _ _ h f _ (ix2 ⟨(i 0).val - 32 * k.val, by omega⟩ (i 1)) i fun a => ?_).trans ?_
    · fin_cases a
      · show (i 0).val = 32 * k.val + ((i 0).val - 32 * k.val); omega
      · show (i 1).val = 0 + (i 1).val; omega
    · unfold Y
      have e1 : (⟨(i 0).val / 32, by have h : (i 0).val < 256 := (i 0).isLt; omega⟩ : Fin 8) = k := Fin.ext (by show (i 0).val / 32 = k.val; omega)
      have e2 : (⟨(i 0).val % 32, Nat.mod_lt _ (by decide)⟩ : Fin 32) = ⟨(i 0).val - 32 * k.val, by omega⟩ := Fin.ext (by show (i 0).val % 32 = _; simp only; omega)
      rw [e1, e2]

/-- A load of a block of `p`, laid out as a slot, is what that slot is to hold. -/
theorem load_blk (c q : Dev nD) {o : Fin 2 → ℕ} (ho : o = ![256 * c.val, 0]) (h) :
    k0_pay18 ((Memref.whole cc0_scratch2).view.readAt (Elt F) (Rect.unit (s := S2048x1024) o S256x1024.size h).toLoadRect (P m q)) = rv m c q := by
  subst ho; funext x
  unfold k0_pay18
  dsimp only
  rw [shapeCast_self]
  obtain ⟨r, t, e⟩ : ∃ (r : Fin 256) (t : Fin 1024), x = ix3 0 r t :=
    ⟨x 1, x 2, by
      funext a; fin_cases a
      · exact Fin.ext (by have : (x 0).val < 1 := (x 0).isLt; show (x 0).val = 0; omega)
      · rfl
      · rfl⟩
  subst e
  refine (shapeCast_ab_1ab_apply _ _ _ _ _).trans ?_
  refine (readAt_unit cc0_scratch2 _ _ h _ (ix2 r t) (ix2 (tokRow c r) t) fun a => ?_).trans rfl
  fin_cases a <;> simp [tokRow]

/-- Storing it there leaves the slot holding it. -/
theorem store_slot (c q : Dev nD) {o : Fin 3 → ℕ} (ho : o = ![q.val, 0, 0]) (h) (f : (cc0_scratch3 : Ref sig .tc).ty.Contents (Elt F)) :
    ∀ i ∈ (slotM q).view.set,
      ((Memref.whole cc0_scratch3).access (Rect.unit (s := S8x256x1024) o S1x256x1024.size h)).write (Elt F) f (rv m c q) Finset.univ i = RC m c i := by
  subst ho; intro i hi
  replace hi := (mem_slot q i).mp hi
  refine (write_unit_in cc0_scratch3 _ _ h f _ (ix3 0 (i 1) (i 2)) i fun a => ?_).trans ?_
  · fin_cases a
    · show (i 0).val = q.val + 0; omega
    · show (i 1).val = 0 + (i 1).val; omega
    · show (i 2).val = 0 + (i 2).val; omega
  · have : i 0 = q := Fin.ext hi
    unfold RC rv; rw [this]

end Cert.Moe

end
-- ==== Proof.Sched.lean ====
/-
# The schedule of the exchange

For every semaphore of the exchange: who pays it, how much, and what the payment hands over.

* device `c`'s barrier semaphore: one unit from each other device `d`, with `d`'s slot `c`, ready to be written;
* `c`'s `j`-th send semaphore: one block's credit from `c`'s own transfer, with the rows of `p` it read back;
* `c`'s receive semaphore `q`: one block's credit from device `q`'s transfer, with slot `q` holding `q`'s contribution.

Then what each device owes at launch, in the order it pays, and the levels that order the waits.
-/
module

public import proofs.«01_k».proof.Proof.Contents

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- One block's credit. -/
@[irreducible] def N : ℕ := (slotM 0).view.dmaCredit
theorem credit_slot (q : Fin 8) : (slotM q).view.dmaCredit = N := by unfold N; rfl
theorem credit_blk (d : Fin 8) : (blkM d).view.dmaCredit = N := by unfold N; rfl
theorem N_pos : 0 < N := by unfold N; exact View.dmaCredit_pos _ (by rw [show S256x1024.numel = 262144 from rfl]; exact Nat.succ_pos _)

/-- Slot `q` of device `c`'s landing buffer, holding `f`. -/
def slotPts (c : Dev nD) (q : Fin 8) (f : (cc0_scratch3 : Ref sig .tc).ty.Contents (Elt F)) : sProp 𝕄 :=
  (slotM q).view.loc (c : Thread nD τ) ↦[(slotM q).view.set]{fullShare} f
/-- The rows of `p` on device `c` that belong to device `d`, holding `f`. -/
def blkPts (c : Dev nD) (d : Fin 8) (f : (cc0_scratch2 : Ref sig .tc).ty.Contents (Elt F)) : sProp 𝕄 :=
  (blkM d).view.loc (c : Thread nD τ) ↦[(blkM d).view.set]{fullShare} f

omit [FloatOps F] in
instance slotPts_storable (c : Dev nD) (q f) : BI.Storable (upEmb : UEmb _ 𝕄) (slotPts (F := F) c q f) := by unfold slotPts; infer_instance
omit [FloatOps F] in
instance blkPts_storable (c : Dev nD) (d f) : BI.Storable (upEmb : UEmb _ 𝕄) (blkPts (F := F) c d f) := by unfold blkPts; infer_instance

/-- What device `d` hands `c` on `c`'s barrier: its slot `c`, whatever it holds. -/
def barPay (c d : Dev nD) : sProp 𝕄 := iprop(∃ f, slotPts d c f)
omit [FloatOps F] in
instance barPay_storable (c d : Dev nD) : BI.Storable (upEmb : UEmb _ 𝕄) (barPay (F := F) c d) := by unfold barPay; infer_instance

/-- The duties: one round. -/
def dutiesOf (c : Dev nD) : Role → Finset (Fin 8)
  | .bar => Finset.univ.erase c
  | .send _ => {0}
  | .recv q => if q = c then ∅ else {q}
  | .other => ∅
/-- What each duty pays. -/
def amountOf : Role → ℕ
  | .bar => 1
  | _ => N
/-- What each duty hands over. -/
def payOf (c : Dev nD) (d : Fin 8) : Role → sProp 𝕄
  | .bar => barPay c d
  | .send j => blkPts c (peer c j) (P m c)
  | .recv q => slotPts c q (RC m c)
  | .other => iprop(emp)

instance payOf_storable (c : Dev nD) (d : Fin 8) (r : Role) : BI.Storable (upEmb : UEmb _ 𝕄) (payOf (F := F) m c d r) := by
  unfold payOf; cases r <;> infer_instance

/-- The exchange's schedule: one round, round 0. -/
def Rd : Rounds.Schedule (GSem nD τ sig) (Fin 8) 𝕄 where
  duties g r := if r = 0 ∧ g.1.2 = .tc then dutiesOf g.1.1 (role g.2) else ∅
  unitless _ := False
  amount g _ _ := amountOf (role g.2)
  payload g _ d := payOf m g.1.1 d (role g.2)
  amount_pos g _ _ _ := by
    cases h : role g.2 <;> first | exact Nat.one_pos | exact N_pos

instance Rd_payload_storable (g : GSem nD τ sig) (r : ℕ) (d : Fin 8) :
    BI.Storable (upEmb : UEmb _ 𝕄) ((Rd (F := F) m).payload g r d) := payOf_storable m g.1.1 d (role g.2)

section Tables
variable (c : Dev nD)

theorem duties_at (sm : SemLoc sig) : (Rd (F := F) m).duties ((c : Thread nD τ), sm) 0 = dutiesOf c (role sm) := by
  dsimp only [Rd]; exact if_pos ⟨rfl, rfl⟩
theorem duties_later (g : GSem nD τ sig) : ∀ r, 1 ≤ r → (Rd (F := F) m).duties g r = ∅ :=
  fun r hr => if_neg fun h => by omega
theorem duties_bar : (Rd (F := F) m).duties (barCell c) 0 = Finset.univ.erase c := by rw [duties_at, role_bar]; rfl
theorem duties_send (j : Fin 7) : (Rd (F := F) m).duties (sendCell c j) 0 = {0} := by rw [duties_at, role_send]; rfl
theorem duties_recv (q : Fin 8) (h : q ≠ c) : (Rd (F := F) m).duties (recvCell c q) 0 = {q} := by
  rw [duties_at, role_recv]; exact if_neg h
theorem duties_own (r : ℕ) : (Rd (F := F) m).duties (recvCell c c) r = ∅ := by
  by_cases h : 1 ≤ r
  · exact duties_later m _ r h
  · obtain rfl : r = 0 := by omega
    rw [duties_at, role_recv]; exact if_pos rfl
theorem amount_bar (d : Fin 8) : (Rd (F := F) m).amount (barCell c) 0 d = 1 := by show amountOf (role (.reg barS)) = 1; rw [role_bar]; rfl
theorem amount_send (j : Fin 7) (d : Fin 8) : (Rd (F := F) m).amount (sendCell c j) 0 d = N := by show amountOf (role (.dma (sendS j))) = N; rw [role_send]; rfl
theorem amount_recv (q d : Fin 8) : (Rd (F := F) m).amount (recvCell c q) 0 d = N := by show amountOf (role (.dma (recvS q))) = N; rw [role_recv]; rfl
theorem payload_bar (d : Fin 8) : (Rd (F := F) m).payload (barCell c) 0 d = barPay c d := by show payOf m c d (role (.reg barS)) = _; rw [role_bar]; rfl
theorem payload_send (j : Fin 7) (d : Fin 8) : (Rd (F := F) m).payload (sendCell c j) 0 d = blkPts c (peer c j) (P m c) := by
  show payOf m c d (role (.dma (sendS j))) = _; rw [role_send]; rfl
theorem payload_recv (q d : Fin 8) : (Rd (F := F) m).payload (recvCell c q) 0 d = slotPts c q (RC m c) := by
  show payOf m c d (role (.dma (recvS q))) = _; rw [role_recv]; rfl

theorem expect_bar : (Rd (F := F) m).expect (barCell c) 0 = 7 := by
  unfold Schedule.expect Schedule.amountOf
  rw [duties_bar, Finset.sum_congr rfl fun d _ => amount_bar m c d, Finset.sum_const, Finset.card_erase_of_mem (Finset.mem_univ _)]
  rfl
theorem expect_send (j : Fin 7) : (Rd (F := F) m).expect (sendCell c j) 0 = N := by
  unfold Schedule.expect Schedule.amountOf; rw [duties_send, Finset.sum_singleton, amount_send]
theorem expect_recv (q : Fin 8) (h : q ≠ c) : (Rd (F := F) m).expect (recvCell c q) 0 = N := by
  unfold Schedule.expect Schedule.amountOf; rw [duties_recv m c q h, Finset.sum_singleton, amount_recv]

/-- Over a device's seven peers, one by one. -/
theorem bigSep_peers (Φ : Fin 8 → sProp 𝕄) : bigSep (Finset.univ.erase c) Φ = bigSep Finset.univ fun j : Fin 7 => Φ (peer c j) := by
  rw [erase_eq_peers c, bigSep_map]; rfl

/-- All that the barrier's round hands over: every other device's slot `c`. -/
theorem rest_bar : bigSep ((Rd (F := F) m).duties (barCell c) 0 \ ∅) (fun d => (Rd (F := F) m).payload (barCell c) 0 d)
    = bigSep Finset.univ fun j : Fin 7 => barPay c (peer c j) := by
  rw [Finset.sdiff_empty, duties_bar, bigSep_congr fun d _ => payload_bar m c d, bigSep_peers]
theorem rest_send (j : Fin 7) : bigSep ((Rd (F := F) m).duties (sendCell c j) 0 \ ∅) (fun d => (Rd (F := F) m).payload (sendCell c j) 0 d)
    = blkPts c (peer c j) (P m c) := by
  rw [Finset.sdiff_empty, duties_send, bigSep_singleton, payload_send]
theorem rest_recv (q : Fin 8) (h : q ≠ c) : bigSep ((Rd (F := F) m).duties (recvCell c q) 0 \ ∅) (fun d => (Rd (F := F) m).payload (recvCell c q) 0 d)
    = slotPts c q (RC m c) := by
  rw [Finset.sdiff_empty, duties_recv m c q h, bigSep_singleton, payload_recv]

end Tables

/-! ## What each device owes, and the levels -/

set_option backward.proofsInPublic true in
/-- The last `n` of the seven peers' places: `n = 7` starts at the first. -/
def lastPeer (n : ℕ) : Fin 7 := ⟨6 - n, by omega⟩

/-- The credits owed by the last `n` transfers. -/
def oweR (c : Dev nD) : ℕ → CellTallies nD τ sig Unit
  | 0 => 0
  | n + 1 => oweR c n + tallyAt (recvCell (peer c (lastPeer n)) c) () N
/-- All seven transfers' credits and the units of the last `n` signals. -/
def oweB (c : Dev nD) : ℕ → CellTallies nD τ sig Unit
  | 0 => oweR c 7
  | n + 1 => oweB c n + tallyAt (barCell (peer c (lastPeer n))) () 1
/-- What a device owes at launch. -/
abbrev O₀ (c : Dev nD) : CellTallies nD τ sig Unit := oweB c 7

def L (g : GSem nD τ sig) : Finset Unit := if g.1.2 = .tc then {()} else ∅
/-- The levels: barrier semaphores 1, receive semaphores 2, everything else 0. -/
def lvOf : Role → ℕ
  | .bar => 1 | .recv _ => 2 | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _
theorem lv_bar (c : Dev nD) (u) : lv (barCell c) u = 1 := by unfold lv; rw [role_bar]; rfl
theorem lv_recv (c : Dev nD) (q u) : lv (recvCell c q) u = 2 := by unfold lv; rw [role_recv]; rfl

/-- A tally at one cell is nothing elsewhere. -/
theorem tally_pos {g g' : GSem nD τ sig} {k : ℕ} {u : Unit} (h : 0 < (tallyAt g () k : CellTallies nD τ sig Unit) g' u) : g' = g := by
  rw [tallyAt_apply] at h
  by_contra hn
  rw [if_neg fun h' => hn h'.1] at h
  exact Nat.lt_irrefl 0 h

theorem oweR_pos {c : Dev nD} {n : ℕ} {g : GSem nD τ sig} {u : Unit} (h : 0 < oweR c n g u) : ∃ d, g = recvCell d c := by
  induction n with
  | zero => exact absurd h (Nat.lt_irrefl 0)
  | succ n ih =>
    unfold oweR at h
    rw [Pi.add_apply, Finsupp.add_apply] at h
    rcases Nat.eq_zero_or_pos (oweR c n g u) with h0 | h0
    · rw [h0, Nat.zero_add] at h; exact ⟨_, tally_pos h⟩
    · exact ih h0
theorem oweB_pos {c : Dev nD} {n : ℕ} {g : GSem nD τ sig} {u : Unit} (h : 0 < oweB c n g u) :
    (∃ d, g = recvCell d c) ∨ ∃ d, g = barCell d := by
  induction n with
  | zero => exact .inl (oweR_pos h)
  | succ n ih =>
    unfold oweB at h
    rw [Pi.add_apply, Finsupp.add_apply] at h
    rcases Nat.eq_zero_or_pos (oweB c n g u) with h0 | h0
    · rw [h0, Nat.zero_add] at h; exact .inr ⟨_, tally_pos h⟩
    · exact ih h0

omit [FloatOps F] in
/-- Waiting on a semaphore of level 0 is allowed whatever the device owes. -/
theorem mayWait_low (c : Dev nD) (sm : SemLoc sig) (hs : lvOf (role sm) = 0) (n : ℕ) :
    (levAts L lv : sProp 𝕄) ⊢ MayWait (c : Thread nD τ) sm () (oweB c n) :=
  MayOwe.of_cut (L := L) (lev := lv) 0 (fun p hp => by rw [Finset.mem_singleton.mp hp]; exact mem_L _ _ _)
    (fun g u hg => by rcases oweB_pos hg with ⟨d, rfl⟩ | ⟨d, rfl⟩ <;> exact mem_L _ _ _)
    (fun p hp => by rw [Finset.mem_singleton.mp hp]; exact le_of_eq hs)
    (fun g u hg => by
      rcases oweB_pos hg with ⟨d, rfl⟩ | ⟨d, rfl⟩
      · rw [lv_recv]; decide
      · rw [lv_bar]; decide)

omit [FloatOps F] in
/-- Waiting on the barrier is allowed when only transfers are owed. -/
theorem mayWait_bar (c : Dev nD) : (levAts L lv : sProp 𝕄) ⊢ MayWait (c : Thread nD τ) (.reg barS) () (oweR c 7) :=
  MayOwe.of_cut (L := L) (lev := lv) 1 (fun p hp => by rw [Finset.mem_singleton.mp hp]; exact mem_L _ _ _)
    (fun g u hg => by obtain ⟨d, rfl⟩ := oweR_pos hg; exact mem_L _ _ _)
    (fun p hp => by rw [Finset.mem_singleton.mp hp]; exact le_of_eq (lv_bar c ()))
    (fun g u hg => by obtain ⟨d, rfl⟩ := oweR_pos hg; rw [lv_recv]; decide)

end Cert.Moe

end
-- ==== Proof.Steps.lean ====
/-
# The steps of the body

Each kind of effect the kernel's body has on the exchange, executed once at a symbolic device and a symbolic peer.
-/
module

public import proofs.«01_k».proof.Proof.Sched

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

abbrev 𝒱₀ : Variants := Variants.none

/-- The body's weakest precondition on device `c`. -/
abbrev bwp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem bwp_ret (c : Dev nD) {α : Type} (a : α) (Q : α → sProp 𝕄) : Q a ⊢ bwp (F := F) c (.ret a) Q := by
  unfold bwp
  rw [wp_ret]
  iintro H; imodintro; iexact H

/-! ## The cells and what is known of them -/

set_option backward.proofsInPublic true in
/-- A device's sixteen semaphores of the exchange: the barrier, seven send, eight receive. -/
def csem (k : Fin 16) : SemLoc sig := if k.val = 0 then .reg barS else .dma ⟨4 + k.val, by have := k.isLt; show 4 + k.val < 20; omega⟩
abbrev kcell (ck : Dev nD × Fin 16) : GSem nD τ sig := ((ck.1 : Thread nD τ), csem ck.2)
set_option backward.proofsInPublic true in
def sIx (j : Fin 7) : Fin 16 := ⟨1 + j.val, by have := j.isLt; omega⟩
set_option backward.proofsInPublic true in
def rIx (q : Fin 8) : Fin 16 := ⟨8 + q.val, by have := q.isLt; omega⟩
theorem csem_bar : csem 0 = .reg barS := by decide
theorem csem_send (j : Fin 7) : csem (sIx j) = .dma (sendS j) := by revert j; decide
theorem csem_recv (q : Fin 8) : csem (rIx q) = .dma (recvS q) := by revert q; decide

/-- Every cell's invariant, under the names `K`, and that every cell has reached round 0. -/
def records (K : Dev nD × Fin 16 → ℕ) : sProp 𝕄 :=
  iprop((bigSep Finset.univ fun ck : Dev nD × Fin 16 => cellInv ER (Rd m) (K ck) (kcell ck))
    ∗ bigSep Finset.univ fun ck : Dev nD × Fin 16 => reached ER (kcell ck) 0)

instance records_persistent (K : Dev nD × Fin 16 → ℕ) : BI.Persistent (records m K) := by unfold records; infer_instance

variable (K : Dev nD × Fin 16 → ℕ)

theorem record_at (c : Dev nD) (k : Fin 16) (sm : SemLoc sig) (h : csem k = sm) :
    records m K ⊢ iprop(cellInv ER (Rd m) (K (c, k)) ((c : Thread nD τ), sm) ∗ reached ER ((c : Thread nD τ), sm) 0) := by
  subst h
  unfold records
  exact BIClass.sep_mono (bigSep_elim (i := (c, k)) (Finset.mem_univ _)) (bigSep_elim (i := (c, k)) (Finset.mem_univ _))
theorem rec_bar (c : Dev nD) : records m K ⊢ iprop(cellInv ER (Rd m) (K (c, 0)) (barCell c) ∗ reached ER (barCell c) 0) := record_at m K c 0 _ csem_bar
theorem rec_send (c : Dev nD) (j : Fin 7) : records m K ⊢ iprop(cellInv ER (Rd m) (K (c, sIx j)) (sendCell c j) ∗ reached ER (sendCell c j) 0) :=
  record_at m K c _ _ (csem_send j)
theorem rec_recv (c : Dev nD) (q : Fin 8) : records m K ⊢ iprop(cellInv ER (Rd m) (K (c, rIx q)) (recvCell c q) ∗ reached ER (recvCell c q) 0) :=
  record_at m K c _ _ (csem_recv q)

/-- What device `c` owes, whatever it has waited for. -/
def ow (c : Dev nD) (O : CellTallies nD τ sig Unit) : sProp 𝕄 := iprop(∃ W, owes (c : Thread nD τ) O W)

/-! ## The barrier -/

/-- A signal to the peer whose turn it is: hands it this device's slot for it. -/
theorem signal_step (c : Dev nD) (n : ℕ) {dst : Dev nD} (hd : dst = peer c (lastPeer n)) {α : Type} {Q : α → sProp 𝕄}
    {k : PUnit → Prog (TpuEff nD τ sig (Elt F) Λ₀ .tc) α} :
    iprop(records m K ∗ ow c (oweB c (n + 1)) ∗ dutyTok ER (barCell (peer c (lastPeer n))) 0 c ∗ (∃ f, slotPts c (peer c (lastPeer n)) f))
      ⊢ iprop((ow c (oweB c n) -∗ bwp c (k ⟨⟩) Q)
          -∗ bwp c (.op (.semSignal (Dev.tc dst : Thread nD τ) barS (1#32 : BitVec 32).toInt) k) Q) := by
  subst hd
  iintro ⟨#HR, HO, Ht, Hs⟩ Hk
  ihave #HB := (rec_bar m K (peer c (lastPeer n))) $$ HR
  icases HB with ⟨#HI, #Hr⟩
  unfold ow
  icases HO with ⟨%W, HO⟩
  iapply (Rounds.wp_signal 𝒱₀ ER (Rd m) (c : Thread nD τ) none (dst := (peer c (lastPeer n) : Thread nD τ)) (κ := K (peer c (lastPeer n), 0))
      (d := c) (r := 0) (by rw [duties_bar]; exact Finset.mem_erase.mpr ⟨(peer_ne c _).symm, Finset.mem_univ _⟩)
      ((amount_bar m _ c).trans (by decide)) () (oweB c n) rfl) $$ [HO Ht Hs]
  · isplitr; · iexact HI
    isplitl [HO]; · iexact HO
    isplitl [Ht]; · iexact Ht
    isplitl [Hs]; · rw [payload_bar]; unfold barPay; iexact Hs
    iexact Hr
  iintro HO
  iapply Hk
  iexists W; iexact HO

/-- The wait for all seven peers: their slots for this device, and the cell closed. -/
theorem barrier_step (c : Dev nD) {α : Type} {Q : α → sProp 𝕄} {k : PUnit → Prog (TpuEff nD τ sig (Elt F) Λ₀ .tc) α} :
    iprop(records m K ∗ levAts L lv ∗ cred (tallyAt (barCell c) () 7) ∗ ow c (oweB c 0) ∗ atPos ER (barCell c) 0 ∅ 0)
      ⊢ iprop(((ow c (oweB c 0) ∗ semVal (barCell c) 0 ∗ bigSep Finset.univ fun j : Fin 7 => barPay c (peer c j)) -∗ bwp c (k ⟨⟩) Q)
          -∗ bwp c (.op (.semWait barS (7#32 : BitVec 32).toInt) k) Q) := by
  iintro ⟨#HR, #Hlev, Hc, HO, Hat⟩ Hk
  ihave #HB := (rec_bar m K c) $$ HR
  icases HB with ⟨#HI, #Hr⟩
  unfold ow
  icases HO with ⟨%W, HO⟩
  iapply (Rounds.wp_wait_rest_token 𝒱₀ ER (Rd m) (c : Thread nD τ) none (κ := K (c, 0)) (k' := 7)
      (wpE_semWait_eq 𝒱₀ (c : Thread nD τ) none Set.univ) (Set.mem_univ _) () (O := oweB c 0) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (Rd m) (Set.mem_univ (K (c, 0))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-! ## The transfers -/

/-- The transfer to the peer whose turn it is: its rows of `p`, into its slot for this device. -/
theorem send_step (c : Dev nD) (n : ℕ) {dv : Dev nD} (hdv : dv = peer c (lastPeer n))
    {src : Memref sig .tc .vmem S256x1024 .f32} (hsrc : src = blkM (peer c (lastPeer n)))
    {dst : Memref sig .tc .vmem S256x1024 .f32} (hdst : dst = slotM c)
    {sS sR : DmaSem sig} (hS : sS = sendS (lastPeer n)) (hR : sR = recvS c)
    {hsc : (dst : Memref sig (Dev.tc dv : Thread nD τ).2.kind .vmem S256x1024 .f32).view.ref.isScScratch = false}
    {h1 : src.view.WordExact} {h2 : dst.view.WordExact}
    {h3 : DmaTarget.Typed .vmem (.dma sR) (.remote (Dev.tc dv : Thread nD τ) dst (.dma sS) hsc)}
    {α : Type} {Q : α → sProp 𝕄} {k : PUnit → Prog (TpuEff nD τ sig (Elt F) Λ₀ .tc) α} :
    iprop(records m K ∗ ow c (oweR c (n + 1)) ∗ blkPts c (peer c (lastPeer n)) (P m c) ∗ barPay c (peer c (lastPeer n))
        ∗ dutyTok ER (sendCell c (lastPeer n)) 0 0 ∗ dutyTok ER (recvCell (peer c (lastPeer n)) c) 0 c)
      ⊢ iprop(((cred (tallyAt (sendCell c (lastPeer n)) () N) ∗ ow c (oweR c n)) -∗ bwp c (k ⟨⟩) Q)
          -∗ bwp c (.op (.enqueueDma src (.remote (Dev.tc dv : Thread nD τ) dst (.dma sS) hsc) (.dma sR) h1 h2 h3) k) Q) := by
  subst hdv hsrc hdst hS hR
  iintro ⟨#HR, HO, Hb, Hs, HtS, HtR⟩ Hk
  ihave #HB := (rec_send m K c (lastPeer n)) $$ HR
  icases HB with ⟨#HIS, #HrS⟩
  ihave #HB := (rec_recv m K (peer c (lastPeer n)) c) $$ HR
  icases HB with ⟨#HIR, #HrR⟩
  unfold ow barPay
  icases HO with ⟨%W, HO⟩
  icases Hs with ⟨%fd, Hs⟩
  unfold blkPts slotPts
  iapply (Rounds.wp_send_pointsTo 𝒱₀ ER (Rd m) (c : Thread nD τ) none (κ₁ := K (c, sIx (lastPeer n))) (κ₂ := K (peer c (lastPeer n), rIx c))
      (r₁ := 0) (r₂ := 0) (d₁ := 0) (d₂ := c) (fd := fd)
      (by rw [duties_send]; exact Finset.mem_singleton_self _)
      (by rw [duties_recv m _ _ (peer_ne c _).symm]; exact Finset.mem_singleton_self _)
      () () N (show (slotM c).view.amount (.dma (recvS c)) = N from credit_slot c) (amount_send m c _ _) (amount_recv m _ _ _) (oweR c n) rfl (W := W)
      (by rw [payload_send]; unfold blkPts; exact BI.Entails.refl _)
      (by rw [payload_recv]; unfold slotPts; exact Entails.of_eq (pointsTo_congr (landed m c (peer c (lastPeer n)) fd)))) $$ [HO Hb Hs HtS HtR]
  · isplitr; · iexact HIS
    isplitr; · iexact HIR
    isplitl [Hb]; · iexact Hb
    isplitl [Hs]; · iexact Hs
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- The wait for what a peer sends: its contribution in its slot, and the cell closed. -/
theorem recv_step (c : Dev nD) (j : Fin 7) {sR : DmaSem sig} (hR : sR = recvS (peer c j))
    {src : Memref sig .tc .vmem S256x1024 .f32} {dst : Memref sig .tc .vmem S256x1024 .f32} (hdst : dst = slotM (peer c j))
    {h1 : src.view.WordExact} {h2 : dst.view.WordExact}
    {α : Type} {Q : α → sProp 𝕄} {k : PUnit → Prog (TpuEff nD τ sig (Elt F) Λ₀ .tc) α} :
    iprop(records m K ∗ cred (tallyAt (recvCell c (peer c j)) () N) ∗ ow c 0 ∗ atPos ER (recvCell c (peer c j)) 0 ∅ 0)
      ⊢ iprop(((ow c 0 ∗ semVal (recvCell c (peer c j)) 0 ∗ slotPts c (peer c j) (RC m c)) -∗ bwp c (k ⟨⟩) Q)
          -∗ bwp c (.op (.waitDma2 sR src dst h1 h2) k) Q) := by
  subst hR hdst
  iintro ⟨#HR, Hc, HO, Hat⟩ Hk
  ihave #HB := (rec_recv m K c (peer c j)) $$ HR
  icases HB with ⟨#HI, #Hr⟩
  unfold ow
  icases HO with ⟨%W, HO⟩
  iapply (Rounds.wp_wait_rest_token 𝒱₀ ER (Rd m) (c : Thread nD τ) none (κ := K (c, rIx (peer c j))) (k' := (slotM (peer c j)).view.dmaCredit)
      (wpE_waitDma2_eq 𝒱₀ (c : Thread nD τ) none Set.univ) (Set.mem_univ _) () (O := 0) (W := W) (R := 0) (m := 0) (T := ∅)
      (by rw [expect_recv m c _ (peer_ne c j), credit_slot, Nat.zero_add])) $$ [Hc HO Hat]
  · isplitr; · iexact HI
    isplitl [Hc]; · rw [credit_slot]; iexact Hc
    isplitl [HO]; · iexact HO
    isplitr; · rw [MayWait_zero]; iempintro
    iexact Hat
  iintro ⟨HO, Hat, -, Hpay⟩
  ihave Hp := (Entails.of_eq (rest_recv m c (peer c j) (peer_ne c j))) $$ Hpay
  imod (Rounds.cell_close ER (Rd m) (Set.mem_univ (K (c, rIx (peer c j)))) (fun h => h) (R := 0 + 1) (duties_later m (recvCell c (peer c j)))) $$ [Hat] with Hz
  · isplitr; · iexact HI
    iexact Hat
  iapply Hk
  isplitl [HO]; · iexists _; iexact HO
  isplitl [Hz]; · iexact Hz
  iexact Hp

/-- The wait for what this device has sent a peer: the rows of `p` back, and the cell closed. -/
theorem sent_step (c : Dev nD) (j : Fin 7) {sS : DmaSem sig} (hS : sS = sendS j)
    {src : Memref sig .tc .vmem S256x1024 .f32} {dst : Memref sig .tc .vmem S256x1024 .f32} (hdst : dst = blkM (peer c j))
    {h1 : src.view.WordExact} {h2 : dst.view.WordExact}
    {α : Type} {Q : α → sProp 𝕄} {k : PUnit → Prog (TpuEff nD τ sig (Elt F) Λ₀ .tc) α} :
    iprop(records m K ∗ cred (tallyAt (sendCell c j) () N) ∗ ow c 0 ∗ atPos ER (sendCell c j) 0 ∅ 0)
      ⊢ iprop(((ow c 0 ∗ semVal (sendCell c j) 0 ∗ blkPts c (peer c j) (P m c)) -∗ bwp c (k ⟨⟩) Q)
          -∗ bwp c (.op (.waitDma2 sS src dst h1 h2) k) Q) := by
  subst hS hdst
  iintro ⟨#HR, Hc, HO, Hat⟩ Hk
  ihave #HB := (rec_send m K c j) $$ HR
  icases HB with ⟨#HI, #Hr⟩
  unfold ow
  icases HO with ⟨%W, HO⟩
  iapply (Rounds.wp_wait_rest_token 𝒱₀ ER (Rd m) (c : Thread nD τ) none (κ := K (c, sIx j)) (k' := (blkM (peer c j)).view.dmaCredit)
      (wpE_waitDma2_eq 𝒱₀ (c : Thread nD τ) none Set.univ) (Set.mem_univ _) () (O := 0) (W := W) (R := 0) (m := 0) (T := ∅)
      (by rw [expect_send m c j, credit_blk, Nat.zero_add])) $$ [Hc HO Hat]
  · isplitr; · iexact HI
    isplitl [Hc]; · rw [credit_blk]; iexact Hc
    isplitl [HO]; · iexact HO
    isplitr; · rw [MayWait_zero]; iempintro
    iexact Hat
  iintro ⟨HO, Hat, -, Hpay⟩
  ihave Hp := (Entails.of_eq (rest_send m c j)) $$ Hpay
  imod (Rounds.cell_close ER (Rd m) (Set.mem_univ (K (c, sIx j))) (fun h => h) (R := 0 + 1) (duties_later m (sendCell c j))) $$ [Hat] with Hz
  · isplitr; · iexact HI
    iexact Hat
  iapply Hk
  isplitl [HO]; · iexists _; iexact HO
  isplitl [Hz]; · iexact Hz
  iexact Hp

/-! ## The local copies of the weights -/

/-- The `k`-th weight matrix on device `c`. -/
def wgtPts (c : Dev nD) (k : Fin 8) : sProp 𝕄 :=
  (wgtM k).view.loc (c : Thread nD τ) ↦[(wgtM k).view.set]{fullShare} m ((c : Thread nD τ).loc main_arg2)
/-- Half `s` of the weight buffer on device `c`, holding `f`. -/
def halfPts (c : Dev nD) (s : Fin 2) (f : (cc0_scratch4 : Ref sig .tc).ty.Contents (Elt F)) : sProp 𝕄 :=
  (halfM s).view.loc (c : Thread nD τ) ↦[(halfM s).view.set]{fullShare} f

/-- The credit of a weight matrix's copy. -/
@[irreducible] def NW : ℕ := (halfM 0).view.dmaCredit
theorem credit_half (s : Fin 2) : (halfM s).view.dmaCredit = NW := by unfold NW; rfl
theorem NW_pos : 0 < NW := by unfold NW; exact View.dmaCredit_pos _ (by rw [show S1024x1024.numel = 1048576 from rfl]; exact Nat.succ_pos _)

/-- The copy of the `k`-th weight matrix into half `s`, under way. -/
def wFlight (c : Dev nD) (k : Fin 8) (s : Fin 2) : sProp 𝕄 :=
  iprop(∃ fd : (cc0_scratch4 : Ref sig .tc).ty.Contents (Elt F), Transfers.Flight EC (c : Thread nD τ) (.dma (wS s)) () NW
    iprop(((halfM s).view.loc (c : Thread nD τ) ↦[(halfM s).view.set]{fullShare}
        ((halfM s).view.write (Elt F) fd ((wgtM k).view.read (Elt F) (m ((c : Thread nD τ).loc main_arg2))) Finset.univ))
      ∗ ((wgtM k).view.loc (c : Thread nD τ) ↦[(wgtM k).view.set]{fullShare} m ((c : Thread nD τ).loc main_arg2))))

theorem wstart_step (c : Dev nD) (k : Fin 8) (s : Fin 2) {sem : DmaSem sig} (hs : sem = wS s)
    {src : Memref sig .tc .hbm S1024x1024 .f32} (hsrc : src = wgtM k) {dst : Memref sig .tc .vmem S1024x1024 .f32} (hdst : dst = halfM s)
    {h1 : src.view.WordExact} {h2 : dst.view.WordExact} {h3 : DmaTarget.Typed (nD := nD) (p := (Dev.tc c : Thread nD τ).2) .hbm (.dma sem) (.here dst)}
    {α : Type} {Q : α → sProp 𝕄} {kk : PUnit → Prog (TpuEff nD τ sig (Elt F) Λ₀ .tc) α} :
    iprop(wgtPts m c k ∗ (∃ f, halfPts c s f) ∗ semVal ((c : Thread nD τ), .dma (wS s)) 0)
      ⊢ iprop((wFlight m c k s -∗ bwp c (kk ⟨⟩) Q) -∗ bwp c (.op (.enqueueDma src (.here dst) (.dma sem) h1 h2 h3) kk) Q) := by
  subst hs hsrc hdst
  unfold wgtPts halfPts wFlight
  iintro ⟨Hw, ⟨%f, Hh⟩, Hv⟩ Hk
  iapply (Transfers.wp_dmaLocal EC 𝒱₀ (c : Thread nD τ) none (fd := f) () NW (show (halfM s).view.amount (.dma (wS s)) = NW from credit_half s) NW_pos (Finset.Subset.refl _)) $$ [Hw Hh Hv]
  · isplitl [Hw]; · iexact Hw
    isplitl [Hh] <;> iassumption
  iintro HF
  iapply Hk
  iexists f; iexact HF

theorem wwait_step (c : Dev nD) (k : Fin 8) (s : Fin 2) {sem : DmaSem sig} (hs : sem = wS s)
    {src : Memref sig .tc .hbm S1024x1024 .f32} {dst : Memref sig .tc .vmem S1024x1024 .f32} (hdst : dst = halfM s)
    {h1 : src.view.WordExact} {h2 : dst.view.WordExact}
    {α : Type} {Q : α → sProp 𝕄} {kk : PUnit → Prog (TpuEff nD τ sig (Elt F) Λ₀ .tc) α} :
    iprop(levAts L lv ∗ wFlight m c k s ∗ ow c (oweB c 0))
      ⊢ iprop(((wgtPts m c k ∗ halfPts c s (wbuf m c k) ∗ semVal ((c : Thread nD τ), .dma (wS s)) 0 ∗ ow c (oweB c 0)) -∗ bwp c (kk ⟨⟩) Q)
          -∗ bwp c (.op (.waitDma2 sem src dst h1 h2) kk) Q) := by
  subst hs hdst
  unfold wFlight ow
  iintro ⟨#Hlev, ⟨%fd, HF⟩, ⟨%W, HO⟩⟩ Hk
  iapply (Transfers.wp_waitLocalO EC 𝒱₀ (c : Thread nD τ) none () (credit_half s) (O := oweB c 0) (W := W)) $$ [HF HO]
  · isplitl [HF]; · iexact HF
    isplitl [HO]; · iexact HO
    iapply (mayWait_low c (.dma (wS s)) (by rw [role_w]; rfl) 0); iexact Hlev
  iintro ⟨⟨Hh, Hw⟩, Hv, HO⟩
  iapply Hk
  isplitl [Hw]; · unfold wgtPts; iexact Hw
  isplitl [Hh]
  · unfold halfPts
    iapply (Entails.of_eq (pointsTo_congr (landed_w m c k s fd))) $$ Hh
  isplitl [Hv]; · iexact Hv
  iexists _; iexact HO

end Cert.Moe

end
-- ==== Proof.State.lean ====
/-
# The body's states

The body runs through four loops over the other devices and one over the device's weight matrices. Here is what holds
between two steps of each, and each loop's step taken from one such state to the next. The pieces of the split buffers
are put together and taken apart here too.
-/
module

public import proofs.«01_k».proof.Proof.Steps

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Fin 16 → ℕ)

/-! ## What is left of a loop over the peers, and what is done -/

/-- `A` for the last `n` peers: those whose turn is still to come. -/
def todo (A : Fin 7 → sProp 𝕄) (n : ℕ) : sProp 𝕄 := bigSep (Finset.univ.filter fun j : Fin 7 => 6 - j.val < n) A
/-- `B` for the peers whose turn has been. -/
def past (B : Fin 7 → sProp 𝕄) (n : ℕ) : sProp 𝕄 := bigSep (Finset.univ.filter fun j : Fin 7 => n ≤ 6 - j.val) B

theorem todo_all (A : Fin 7 → sProp 𝕄) : todo A 7 = bigSep Finset.univ A := by
  unfold todo; rw [Finset.filter_true_of_mem fun j _ => by have := j.isLt; omega]
theorem todo_none (A : Fin 7 → sProp 𝕄) : todo A 0 = iprop(emp) := rfl
theorem past_all (B : Fin 7 → sProp 𝕄) : past B 0 = bigSep Finset.univ B := by
  unfold past; rw [Finset.filter_true_of_mem fun j _ => Nat.zero_le _]
theorem past_none (B : Fin 7 → sProp 𝕄) : past B 7 = iprop(emp) := by
  unfold past; rw [Finset.filter_false_of_mem fun j _ => by have := j.isLt; omega]; rfl
theorem todo_succ (A : Fin 7 → sProp 𝕄) (n : ℕ) (hn : n < 7) : todo A (n + 1) = iprop(A (lastPeer n) ∗ todo A n) := by
  unfold todo
  rw [show (Finset.univ.filter fun j : Fin 7 => 6 - j.val < n + 1) = insert (lastPeer n) (Finset.univ.filter fun j : Fin 7 => 6 - j.val < n) by
    ext j; have := j.isLt; simp only [Finset.mem_filter, Finset.mem_univ, true_and, Finset.mem_insert, lastPeer, Fin.ext_iff]; omega]
  exact bigSep_insert (by simp only [Finset.mem_filter, Finset.mem_univ, true_and, lastPeer]; omega)
theorem past_succ (B : Fin 7 → sProp 𝕄) (n : ℕ) (hn : n < 7) : past B n = iprop(B (lastPeer n) ∗ past B (n + 1)) := by
  unfold past
  rw [show (Finset.univ.filter fun j : Fin 7 => n ≤ 6 - j.val) = insert (lastPeer n) (Finset.univ.filter fun j : Fin 7 => n + 1 ≤ 6 - j.val) by
    ext j; have := j.isLt; simp only [Finset.mem_filter, Finset.mem_univ, true_and, Finset.mem_insert, lastPeer, Fin.ext_iff]; omega]
  exact bigSep_insert (by simp only [Finset.mem_filter, Finset.mem_univ, true_and, lastPeer]; omega)

/-- One of several, held beside the others. -/
theorem one_of {I : Type} [DecidableEq I] {s : Finset I} {i : I} (hi : i ∈ s) (Φ : I → sProp 𝕄) :
    bigSep s Φ = iprop(Φ i ∗ bigSep (s.erase i) Φ) := bigSep_erase hi

/-! ## The signals -/

/-- What a signal to the `j`-th peer takes. -/
def sigNeed (c : Dev nD) (j : Fin 7) : sProp 𝕄 := iprop(dutyTok ER (barCell (peer c j)) 0 c ∗ (∃ f, slotPts c (peer c j) f))
/-- `n` signals to go. -/
def stSig (c : Dev nD) (n : ℕ) : sProp 𝕄 := iprop(ow c (oweB c n) ∗ todo (sigNeed c) n)

theorem sig_next (c : Dev nD) (n : ℕ) (hn : n < 7) {dst : Dev nD} (hd : dst = peer c (lastPeer n)) {α : Type} {Q : α → sProp 𝕄}
    {k : PUnit → Prog (TpuEff nD τ sig (Elt F) Λ₀ .tc) α} :
    iprop(records m K ∗ stSig (F := F) c (n + 1))
      ⊢ iprop((stSig c n -∗ bwp c (k ⟨⟩) Q) -∗ bwp c (.op (.semSignal (Dev.tc dst : Thread nD τ) barS (1#32 : BitVec 32).toInt) k) Q) := by
  unfold stSig sigNeed
  rw [todo_succ _ n hn]
  iintro ⟨#HR, HO, ⟨Ht, Hs⟩, Hrest⟩ Hk
  iapply (signal_step m K c n hd) $$ [HO Ht Hs]
  · isplitr; · iexact HR
    isplitl [HO]; · iexact HO
    isplitl [Ht]; · iexact Ht
    iexact Hs
  iintro HO
  iapply Hk
  isplitl [HO]; · iexact HO
  iexact Hrest

/-! ## The transfers -/

/-- What the transfer to the `j`-th peer takes. -/
def sendNeed (c : Dev nD) (j : Fin 7) : sProp 𝕄 :=
  iprop(blkPts c (peer c j) (P m c) ∗ barPay c (peer c j) ∗ dutyTok ER (sendCell c j) 0 0 ∗ dutyTok ER (recvCell (peer c j) c) 0 c)
/-- The credit for a transfer under way. -/
def sentCr (c : Dev nD) (j : Fin 7) : sProp 𝕄 := cred (tallyAt (sendCell c j) () N)
/-- `n` transfers to go. -/
def stSend (c : Dev nD) (n : ℕ) : sProp 𝕄 := iprop(ow c (oweR c n) ∗ todo (sendNeed m c) n ∗ past (sentCr c) n)

theorem send_next (c : Dev nD) (n : ℕ) (hn : n < 7) {dv : Dev nD} (hdv : dv = peer c (lastPeer n))
    {src : Memref sig .tc .vmem S256x1024 .f32} (hsrc : src = blkM (peer c (lastPeer n)))
    {dst : Memref sig .tc .vmem S256x1024 .f32} (hdst : dst = slotM c)
    {sS sR : DmaSem sig} (hS : sS = sendS (lastPeer n)) (hR : sR = recvS c)
    {hsc : (dst : Memref sig (Dev.tc dv : Thread nD τ).2.kind .vmem S256x1024 .f32).view.ref.isScScratch = false}
    {h1 : src.view.WordExact} {h2 : dst.view.WordExact}
    {h3 : DmaTarget.Typed .vmem (.dma sR) (.remote (Dev.tc dv : Thread nD τ) dst (.dma sS) hsc)}
    {α : Type} {Q : α → sProp 𝕄} {k : PUnit → Prog (TpuEff nD τ sig (Elt F) Λ₀ .tc) α} :
    iprop(records m K ∗ stSend m c (n + 1))
      ⊢ iprop((stSend m c n -∗ bwp c (k ⟨⟩) Q)
          -∗ bwp c (.op (.enqueueDma src (.remote (Dev.tc dv : Thread nD τ) dst (.dma sS) hsc) (.dma sR) h1 h2 h3) k) Q) := by
  unfold stSend
  rw [todo_succ _ n hn, past_succ _ n hn]
  iintro ⟨#HR, HO, ⟨Hn, Hrest⟩, Hp⟩ Hk
  unfold sendNeed
  icases Hn with ⟨Hb, Hs, Ht, Hr⟩
  iapply (send_step m K c n hdv hsrc hdst hS hR) $$ [HO Hb Hs Ht Hr]
  · isplitr; · iexact HR
    isplitl [HO]; · iexact HO
    isplitl [Hb]; · iexact Hb
    isplitl [Hs]; · iexact Hs
    isplitl [Ht] <;> iassumption
  iintro ⟨Hc, HO⟩
  iapply Hk
  isplitl [HO]; · iexact HO
  isplitl [Hrest]; · iexact Hrest
  isplitl [Hc]; · unfold sentCr; iexact Hc
  iexact Hp

/-! ## The waits for what the peers send -/

/-- What the wait for the `j`-th peer's transfer takes, -/
def recvNeed (c : Dev nD) (j : Fin 7) : sProp 𝕄 := iprop(cred (tallyAt (recvCell c (peer c j)) () N) ∗ atPos ER (recvCell c (peer c j)) 0 ∅ 0)
/-- and what it leaves. -/
def recvHas (c : Dev nD) (j : Fin 7) : sProp 𝕄 := iprop(semVal (recvCell c (peer c j)) 0 ∗ slotPts c (peer c j) (RC m c))
/-- `n` of these waits to go. -/
def stRecv (c : Dev nD) (n : ℕ) : sProp 𝕄 := iprop(ow c 0 ∗ todo (recvNeed c) n ∗ past (recvHas m c) n)

theorem recv_next (c : Dev nD) (n : ℕ) (hn : n < 7) {sR : DmaSem sig} (hR : sR = recvS (peer c (lastPeer n)))
    {src : Memref sig .tc .vmem S256x1024 .f32} {dst : Memref sig .tc .vmem S256x1024 .f32} (hdst : dst = slotM (peer c (lastPeer n)))
    {h1 : src.view.WordExact} {h2 : dst.view.WordExact}
    {α : Type} {Q : α → sProp 𝕄} {k : PUnit → Prog (TpuEff nD τ sig (Elt F) Λ₀ .tc) α} :
    iprop(records m K ∗ stRecv m c (n + 1))
      ⊢ iprop((stRecv m c n -∗ bwp c (k ⟨⟩) Q) -∗ bwp c (.op (.waitDma2 sR src dst h1 h2) k) Q) := by
  unfold stRecv
  rw [todo_succ _ n hn, past_succ _ n hn]
  unfold recvNeed recvHas
  iintro ⟨#HR, HO, ⟨⟨Hc, Hat⟩, Hrest⟩, Hp⟩ Hk
  iapply (recv_step m K c (lastPeer n) hR hdst) $$ [HO Hc Hat]
  · isplitr; · iexact HR
    isplitl [Hc]; · iexact Hc
    isplitl [HO] <;> iassumption
  iintro ⟨HO, Hz, Hs⟩
  iapply Hk
  isplitl [HO]; · iexact HO
  isplitl [Hrest]; · iexact Hrest
  isplitl [Hz Hs]; · isplitl [Hz] <;> iassumption
  iexact Hp

/-! ## The waits for what this device sent -/

def sentNeed (c : Dev nD) (j : Fin 7) : sProp 𝕄 := iprop(sentCr c j ∗ atPos ER (sendCell c j) 0 ∅ 0)
def sentHas (c : Dev nD) (j : Fin 7) : sProp 𝕄 := iprop(semVal (sendCell c j) 0 ∗ blkPts c (peer c j) (P m c))
/-- `n` of these waits to go. -/
def stSent (c : Dev nD) (n : ℕ) : sProp 𝕄 := iprop(ow c 0 ∗ todo (sentNeed c) n ∗ past (sentHas m c) n)

theorem sent_next (c : Dev nD) (n : ℕ) (hn : n < 7) {sS : DmaSem sig} (hS : sS = sendS (lastPeer n))
    {src : Memref sig .tc .vmem S256x1024 .f32} {dst : Memref sig .tc .vmem S256x1024 .f32} (hdst : dst = blkM (peer c (lastPeer n)))
    {h1 : src.view.WordExact} {h2 : dst.view.WordExact}
    {α : Type} {Q : α → sProp 𝕄} {k : PUnit → Prog (TpuEff nD τ sig (Elt F) Λ₀ .tc) α} :
    iprop(records m K ∗ stSent m c (n + 1))
      ⊢ iprop((stSent m c n -∗ bwp c (k ⟨⟩) Q) -∗ bwp c (.op (.waitDma2 sS src dst h1 h2) k) Q) := by
  unfold stSent
  rw [todo_succ _ n hn, past_succ _ n hn]
  unfold sentNeed sentHas sentCr
  iintro ⟨#HR, HO, ⟨⟨Hc, Hat⟩, Hrest⟩, Hp⟩ Hk
  iapply (sent_step m K c (lastPeer n) hS hdst) $$ [HO Hc Hat]
  · isplitr; · iexact HR
    isplitl [Hc]; · iexact Hc
    isplitl [HO] <;> iassumption
  iintro ⟨HO, Hz, Hs⟩
  iapply Hk
  isplitl [HO]; · iexact HO
  isplitl [Hrest]; · iexact Hrest
  isplitl [Hz Hs]; · isplitl [Hz] <;> iassumption
  iexact Hp

/-! ## The loop over the weights -/

set_option backward.proofsInPublic true in
/-- The `k`-th weight matrix, -/
def kx (k : ℕ) : Fin 8 := ⟨k % 8, Nat.mod_lt _ (by decide)⟩
set_option backward.proofsInPublic true in
/-- and the half of the buffer it goes through. -/
def sl (k : ℕ) : Fin 2 := ⟨k % 2, Nat.mod_lt _ (by decide)⟩
theorem sl_add_two (k : ℕ) : sl (k + 1 + 1) = sl k := Fin.ext (by show (k + 1 + 1) % 2 = k % 2; omega)

/-- The buffer `b` on device `c`, holding `f`. -/
abbrev buf (c : Dev nD) (b : Ref sig .tc) (f : b.ty.Contents (Elt F)) : sProp 𝕄 := ((c : Thread nD τ).loc b) ↦{fullShare} f

/-- The products in place in the first `n` rows. -/
def yUp (c : Dev nD) (n : ℕ) : sProp 𝕄 := iprop(∃ f : (cc0_scratch1 : Ref sig .tc).ty.Contents (Elt F), ⌜YUpTo m c n f⌝ ∗ buf c cc0_scratch1 f)
/-- A half of the weight buffer free for a copy. -/
def freeHalf (c : Dev nD) (s : Fin 2) : sProp 𝕄 := iprop((∃ f, halfPts c s f) ∗ semVal ((c : Thread nD τ), .dma (wS s)) 0)

/-- Before matrix `k + 1` is fetched: matrix `k` on its way. -/
def stA (c : Dev nD) (k : ℕ) : sProp 𝕄 :=
  iprop(ow c (oweB c 0) ∗ wFlight m c (kx k) (sl k) ∗ freeHalf c (sl (k + 1)) ∗ bigSep (Finset.univ.erase (kx k)) (wgtPts m c) ∗ yUp m c (32 * k))
/-- Both on their way. -/
def stB (c : Dev nD) (k : ℕ) : sProp 𝕄 :=
  iprop(ow c (oweB c 0) ∗ wFlight m c (kx k) (sl k) ∗ wFlight m c (kx (k + 1)) (sl (k + 1))
    ∗ bigSep ((Finset.univ.erase (kx k)).erase (kx (k + 1))) (wgtPts m c) ∗ yUp m c (32 * k))
/-- Matrix `k` there, beside `R`. -/
def stM (c : Dev nD) (k : ℕ) (R : sProp 𝕄) : sProp 𝕄 :=
  iprop(ow c (oweB c 0) ∗ (halfPts c (sl k) (wbuf m c (kx k)) ∗ semVal ((c : Thread nD τ), .dma (wS (sl k))) 0) ∗ R ∗ yUp m c (32 * k))
/-- Its products in place, beside `R`. -/
def stN (c : Dev nD) (k : ℕ) (R : sProp 𝕄) : sProp 𝕄 := iprop(ow c (oweB c 0) ∗ freeHalf c (sl k) ∗ R ∗ yUp m c (32 * k + 32))
/-- Matrix `k + 1` on its way, the others at rest. -/
def rC (c : Dev nD) (k : ℕ) : sProp 𝕄 := iprop(wFlight m c (kx (k + 1)) (sl (k + 1)) ∗ bigSep (Finset.univ.erase (kx (k + 1))) (wgtPts m c))
/-- No matrix on its way. -/
def rE (c : Dev nD) : sProp 𝕄 := iprop(freeHalf c (sl (7 + 1)) ∗ bigSep Finset.univ (wgtPts m c))
/-- All the products in place. -/
def stF (c : Dev nD) : sProp 𝕄 :=
  iprop(ow c (oweB c 0) ∗ freeHalf c 0 ∗ freeHalf c 1 ∗ bigSep Finset.univ (wgtPts m c) ∗ buf c cc0_scratch1 (Y m c))

/-- The first fetch. -/
theorem w_first (c : Dev nD) {sem : DmaSem sig} (hs : sem = wS 0)
    {src : Memref sig .tc .hbm S1024x1024 .f32} (hsrc : src = wgtM 0) {dst : Memref sig .tc .vmem S1024x1024 .f32} (hdst : dst = halfM 0)
    {h1 : src.view.WordExact} {h2 : dst.view.WordExact} {h3 : DmaTarget.Typed (nD := nD) (p := (Dev.tc c : Thread nD τ).2) .hbm (.dma sem) (.here dst)}
    {α : Type} {Q : α → sProp 𝕄} {kk : PUnit → Prog (TpuEff nD τ sig (Elt F) Λ₀ .tc) α} :
    iprop(ow c (oweB c 0) ∗ freeHalf (F := F) c 0 ∗ freeHalf c 1 ∗ bigSep Finset.univ (wgtPts m c) ∗ (∃ f, buf c cc0_scratch1 f))
      ⊢ iprop((stA m c 0 -∗ bwp c (kk ⟨⟩) Q) -∗ bwp c (.op (.enqueueDma src (.here dst) (.dma sem) h1 h2 h3) kk) Q) := by
  rw [one_of (Finset.mem_univ (0 : Fin 8)) (wgtPts m c)]
  unfold freeHalf
  iintro ⟨HO, ⟨Hf, Hv⟩, H1, ⟨Hw, Hws⟩, ⟨%f, Hy⟩⟩ Hk
  iapply (wstart_step m c 0 0 hs hsrc hdst) $$ [Hf Hv Hw]
  · isplitl [Hw]; · iexact Hw
    isplitl [Hf] <;> iassumption
  iintro HF
  iapply Hk
  unfold stA freeHalf
  isplitl [HO]; · iexact HO
  isplitl [HF]; · iexact HF
  isplitl [H1]; · iexact H1
  isplitl [Hws]; · iexact Hws
  unfold yUp
  iexists f
  isplitr; · ipureintro; exact YUpTo_zero m c f
  iexact Hy

/-- A further fetch. -/
theorem w_fetch (c : Dev nD) (k : ℕ) (hk : k < 7) {sem : DmaSem sig} (hs : sem = wS (sl (k + 1)))
    {src : Memref sig .tc .hbm S1024x1024 .f32} (hsrc : src = wgtM (kx (k + 1))) {dst : Memref sig .tc .vmem S1024x1024 .f32} (hdst : dst = halfM (sl (k + 1)))
    {h1 : src.view.WordExact} {h2 : dst.view.WordExact} {h3 : DmaTarget.Typed (nD := nD) (p := (Dev.tc c : Thread nD τ).2) .hbm (.dma sem) (.here dst)}
    {α : Type} {Q : α → sProp 𝕄} {kk : PUnit → Prog (TpuEff nD τ sig (Elt F) Λ₀ .tc) α} :
    stA m c k ⊢ iprop((stB m c k -∗ bwp c (kk ⟨⟩) Q) -∗ bwp c (.op (.enqueueDma src (.here dst) (.dma sem) h1 h2 h3) kk) Q) := by
  unfold stA stB freeHalf
  rw [one_of (s := Finset.univ.erase (kx k)) (i := kx (k + 1)) (Finset.mem_erase.mpr ⟨by
    intro e; have := congrArg Fin.val e; simp only [kx] at this; omega, Finset.mem_univ _⟩) (wgtPts m c)]
  iintro ⟨HO, HF, ⟨Hf, Hv⟩, ⟨Hw, Hws⟩, Hy⟩ Hk
  iapply (wstart_step m c (kx (k + 1)) (sl (k + 1)) hs hsrc hdst) $$ [Hf Hv Hw]
  · isplitl [Hw]; · iexact Hw
    isplitl [Hf] <;> iassumption
  iintro HF2
  iapply Hk
  isplitl [HO]; · iexact HO
  isplitl [HF]; · iexact HF
  isplitl [HF2]; · iexact HF2
  isplitl [Hws] <;> iassumption

/-- The wait for matrix `k`. -/
theorem w_arrive (c : Dev nD) (k : ℕ) (hk : k < 7) {sem : DmaSem sig} (hs : sem = wS (sl k))
    {src : Memref sig .tc .hbm S1024x1024 .f32} {dst : Memref sig .tc .vmem S1024x1024 .f32} (hdst : dst = halfM (sl k))
    {h1 : src.view.WordExact} {h2 : dst.view.WordExact}
    {α : Type} {Q : α → sProp 𝕄} {kk : PUnit → Prog (TpuEff nD τ sig (Elt F) Λ₀ .tc) α} :
    iprop(levAts L lv ∗ stB m c k) ⊢ iprop((stM m c k (rC m c k) -∗ bwp c (kk ⟨⟩) Q) -∗ bwp c (.op (.waitDma2 sem src dst h1 h2) kk) Q) := by
  unfold stB stM rC
  rw [show (Finset.univ.erase (kx k)).erase (kx (k + 1)) = (Finset.univ.erase (kx (k + 1))).erase (kx k) from Finset.erase_right_comm,
    one_of (s := Finset.univ.erase (kx (k + 1))) (i := kx k) (Finset.mem_erase.mpr ⟨by
    intro e; have := congrArg Fin.val e; simp only [kx] at this; omega, Finset.mem_univ _⟩) (wgtPts m c)]
  iintro ⟨#Hlev, HO, HF, HF2, Hws, Hy⟩ Hk
  iapply (wwait_step m c (kx k) (sl k) hs hdst) $$ [HO HF]
  · isplitr; · iexact Hlev
    isplitl [HF] <;> iassumption
  iintro ⟨Hw, Hh, Hv, HO⟩
  iapply Hk
  isplitl [HO]; · iexact HO
  isplitl [Hh Hv]; · isplitl [Hh] <;> iassumption
  isplitl [HF2 Hw Hws]
  · isplitl [HF2]; · iexact HF2
    isplitl [Hw] <;> iassumption
  iexact Hy

/-- The wait for the last. -/
theorem w_last (c : Dev nD) {sem : DmaSem sig} (hs : sem = wS 1)
    {src : Memref sig .tc .hbm S1024x1024 .f32} {dst : Memref sig .tc .vmem S1024x1024 .f32} (hdst : dst = halfM 1)
    {h1 : src.view.WordExact} {h2 : dst.view.WordExact}
    {α : Type} {Q : α → sProp 𝕄} {kk : PUnit → Prog (TpuEff nD τ sig (Elt F) Λ₀ .tc) α} :
    iprop(levAts L lv ∗ stA m c 7) ⊢ iprop((stM m c 7 (rE m c) -∗ bwp c (kk ⟨⟩) Q) -∗ bwp c (.op (.waitDma2 sem src dst h1 h2) kk) Q) := by
  unfold stA stM rE
  rw [one_of (s := Finset.univ) (i := kx 7) (Finset.mem_univ _) (wgtPts m c)]
  iintro ⟨#Hlev, HO, HF, HF2, Hws, Hy⟩ Hk
  iapply (wwait_step m c (kx 7) (sl 7) (hs.trans (by decide)) (hdst.trans rfl)) $$ [HO HF]
  · isplitr; · iexact Hlev
    isplitl [HF] <;> iassumption
  iintro ⟨Hw, Hh, Hv, HO⟩
  iapply Hk
  isplitl [HO]; · iexact HO
  isplitl [Hh Hv]; · isplitl [Hh] <;> iassumption
  isplitl [HF2 Hw Hws]
  · isplitl [HF2]; · iexact HF2
    isplitl [Hw] <;> iassumption
  iexact Hy

/-- A load of a matrix that has landed. -/
theorem half_load (c : Dev nD) (k : Fin 8) (s : Fin 2) {o : Fin 3 → ℕ} (ho : o = ![s.val, 0, 0])
    {h : ∀ a, o a + S1x1024x1024.size a ≤ S2x1024x1024.size a} {hl}
    {α : Type} {Q : α → sProp 𝕄} {kk : Vec F S1x1024x1024 .f32 → Prog (TpuEff nD τ sig (Elt F) Λ₀ .tc) α} :
    halfPts c s (wbuf m c k) ⊢ iprop((halfPts c s (wbuf m c k) -∗ bwp c (kk (wv m c k)) Q)
      -∗ bwp c (.op (.load vM (Rect.unit (s := S2x1024x1024) o S1x1024x1024.size h).toLoadRect hl) kk) Q) := by
  subst ho
  rw [← load_half m c k s rfl h]
  unfold halfPts
  refine wp_load 𝒱₀ (c : Thread nD τ) none Set.univ (m := vM) ?_
  intro i hi
  rw [Memref.set_view_squeeze]
  refine (ValueKit.mem_set_slice_whole_iff cc0_scratch4 _ i Rect.mem_set_unit).mpr ?_
  obtain ⟨x, hx, rfl⟩ := Finset.mem_map.mp hi
  exact Rect.mem_set_unit.mp hx

/-- The load of matrix `k`. -/
theorem w_load (c : Dev nD) (k : ℕ) (R : sProp 𝕄) {o : Fin 3 → ℕ} (ho : o = ![(sl k).val, 0, 0])
    {h : ∀ a, o a + S1x1024x1024.size a ≤ S2x1024x1024.size a} {hl}
    {α : Type} {Q : α → sProp 𝕄} {kk : Vec F S1x1024x1024 .f32 → Prog (TpuEff nD τ sig (Elt F) Λ₀ .tc) α} :
    stM m c k R ⊢ iprop((stM m c k R -∗ bwp c (kk (wv m c (kx k))) Q)
      -∗ bwp c (.op (.load vM (Rect.unit (s := S2x1024x1024) o S1x1024x1024.size h).toLoadRect hl) kk) Q) := by
  unfold stM
  iintro ⟨HO, ⟨Hh, Hv⟩, HR, Hy⟩ Hk
  iapply (half_load m c (kx k) (sl k) ho) $$ Hh
  iintro Hh
  iapply Hk
  isplitl [HO]; · iexact HO
  isplitl [Hh Hv]; · isplitl [Hh] <;> iassumption
  isplitl [HR] <;> iassumption

/-- A load of the rows the products are about to be stored to: whatever it reads. -/
theorem w_dead (c : Dev nD) (k : ℕ) (R : sProp 𝕄) {o : Fin 2 → ℕ} {h : ∀ a, o a + S32x1024.size a ≤ S256x1024.size a} {hl}
    {α : Type} {Q : α → sProp 𝕄} {kk : Vec F S32x1024 .f32 → Prog (TpuEff nD τ sig (Elt F) Λ₀ .tc) α} :
    stM m c k R ⊢ iprop((∀ v, stM m c k R -∗ bwp c (kk v) Q)
      -∗ bwp c (.op (.load yM (Rect.unit (s := S256x1024) o S32x1024.size h).toLoadRect hl) kk) Q) := by
  unfold stM yUp
  iintro ⟨HO, Hh, HR, ⟨%f, %hf, Hy⟩⟩ Hk
  iapply (wp_load 𝒱₀ (c : Thread nD τ) none Set.univ (m := yM) (Finset.subset_univ _)) $$ Hy
  iintro Hy
  iapply Hk
  isplitl [HO]; · iexact HO
  isplitl [Hh]; · iexact Hh
  isplitl [HR]; · iexact HR
  iexists f
  isplitr; · ipureintro; exact hf
  iexact Hy

/-- The store of matrix `k`'s products. -/
theorem w_store (c : Dev nD) (k : ℕ) (hk : k < 8) (R : sProp 𝕄) {o : Fin 2 → ℕ} (ho : o = ![32 * k, 0])
    {h : ∀ a, o a + S32x1024.size a ≤ S256x1024.size a} {w : FVec F S32x1024 .f32} (hw : w = ypay m c (kx k)) {hx hm}
    {α : Type} {Q : α → sProp 𝕄} {kk : PUnit → Prog (TpuEff nD τ sig (Elt F) Λ₀ .tc) α} :
    stM m c k R ⊢ iprop((stN m c k R -∗ bwp c (kk ⟨⟩) Q)
      -∗ bwp c (.op (.store yM (Rect.unit (s := S256x1024) o S32x1024.size h) w Finset.univ hx hm) kk) Q) := by
  obtain ⟨k', rfl⟩ : ∃ k' : Fin 8, k = k'.val := ⟨⟨k, hk⟩, rfl⟩
  have ek : kx k'.val = k' := Fin.ext (Nat.mod_eq_of_lt k'.isLt)
  rw [ek] at hw
  unfold stM stN yUp freeHalf
  iintro ⟨HO, ⟨Hh, Hv⟩, HR, ⟨%f, %hf, Hy⟩⟩ Hk
  iapply (wp_store 𝒱₀ (c : Thread nD τ) none Set.univ (m := yM) (r := Rect.unit (s := S256x1024) o S32x1024.size h) (w := w) (f := f) (Finset.subset_univ _)) $$ Hy
  iintro Hy
  iapply Hk
  isplitl [HO]; · iexact HO
  isplitl [Hh Hv]
  · isplitl [Hh]; · iexists _; iexact Hh
    iexact Hv
  isplitl [HR]; · iexact HR
  iexists _
  isplitr; · ipureintro; exact YUpTo_step m c k' ho h f hf w hw
  iexact Hy

theorem stN_next (c : Dev nD) (k : ℕ) : stN m c k (rC m c k) ⊢ stA m c (k + 1) := by
  unfold stN rC stA
  rw [sl_add_two, Nat.mul_add]
  iintro ⟨HO, Hf, ⟨HF, Hws⟩, Hy⟩
  isplitl [HO]; · iexact HO
  isplitl [HF]; · iexact HF
  isplitl [Hf]; · iexact Hf
  isplitl [Hws] <;> iassumption

theorem stN_end (c : Dev nD) : stN m c 7 (rE m c) ⊢ stF m c := by
  unfold stN rE stF yUp
  iintro ⟨HO, Hf, ⟨HF, Hws⟩, ⟨%f, %hf, Hy⟩⟩
  rw [YUpTo_all m c f hf]
  isplitl [HO]; · iexact HO
  isplitl [HF]; · iexact HF
  isplitl [Hf]; · iexact Hf
  isplitl [Hws] <;> iassumption

end Cert.Moe

end
-- ==== Proof.Body1.lean ====
/-
# The body's first part: the barrier

Seven signals, one to each other device, and the wait for theirs.
-/
module

public import proofs.«01_k».proof.Proof.State

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Fin 16 → ℕ)

/-- The barrier's semaphore as the body passes it on. -/
abbrev bar3 : Sems sig S_ := SemArray.scalar (sig.barrier 0 rfl)

theorem part1_run (c : Dev nD) {Q : (Σ' (d0 : Dev nD) (v2 : BitVec 32) (v3 : Sems sig S_) (v30 : BitVec 32) (c8_i32_18 : BitVec 32), BitVec 1) → sProp 𝕄} :
    iprop(records m K ∗ stSig (F := F) c 7)
      ⊢ iprop((∀ r, ⌜r.1 = c ∧ r.2.1 = dword c ∧ r.2.2.1 = bar3⌝ -∗ stSig c 5 -∗ Q r) -∗ bwp c (k0_part1 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7) Q) := by
  iintro ⟨#HR, Hst⟩ Hk
  simp only [k0_part1_eq_skeleton]
  unfold k0_part1_skel
  simp only [semSignalWord, semWaitWord, Prog.lift, Prog.bind_op, Prog.bind_ret, Prog.pure_eq_ret, wp_deviceId]
  iapply (sig_next m K c 6 (by decide) (dev1_eq c)) $$ [Hst]
  · isplitr; · iexact HR
    iexact Hst
  iintro Hst
  iapply (sig_next m K c 5 (by decide) (dev2_eq c)) $$ [Hst]
  · isplitr; · iexact HR
    iexact Hst
  iintro Hst
  iapply (bwp_ret c)
  iapply Hk $$ [] Hst
  ipureintro; exact ⟨rfl, rfl, rfl⟩

theorem part2_run (c : Dev nD) (a b : BitVec 32) (e : BitVec 1) {Q : (Σ' (v59 : BitVec 32) (v64 : BitVec 1), BitVec 32) → sProp 𝕄} :
    iprop(records m K ∗ stSig (F := F) c 5)
      ⊢ iprop((∀ v, stSig c 3 -∗ Q v) -∗ bwp c (k0_part2 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 c (dword c) bar3 a b e) Q) := by
  iintro ⟨#HR, Hst⟩ Hk
  simp only [k0_part2_eq_skeleton]
  unfold k0_part2_skel
  simp only [semSignalWord, semWaitWord, Prog.lift, Prog.bind_op, Prog.bind_ret, Prog.pure_eq_ret, wp_deviceId]
  iapply (sig_next m K c 4 (by decide) (dev3_eq c)) $$ [Hst]
  · isplitr; · iexact HR
    iexact Hst
  iintro Hst
  iapply (sig_next m K c 3 (by decide) (dev4_eq c)) $$ [Hst]
  · isplitr; · iexact HR
    iexact Hst
  iintro Hst
  iapply (bwp_ret c)
  iapply Hk $$ Hst

/-- After the barrier: every slot for this device, on the others, is this device's to write. -/
theorem part3_run (c : Dev nD) (a : BitVec 32) (b : BitVec 1) (e : BitVec 32) {Q : PUnit → sProp 𝕄} :
    iprop(records m K ∗ levAts L lv ∗ stSig (F := F) c 3 ∗ cred (tallyAt (barCell c) () 7) ∗ atPos ER (barCell c) 0 ∅ 0)
      ⊢ iprop(((ow c (oweB c 0) ∗ semVal (barCell c) 0 ∗ bigSep Finset.univ fun j : Fin 7 => barPay c (peer c j)) -∗ Q ⟨⟩)
          -∗ bwp c (k0_part3 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 c (dword c) bar3 a b e) Q) := by
  iintro ⟨#HR, #Hlev, Hst, Hc, Hat⟩ Hk
  simp only [k0_part3_eq_skeleton]
  unfold k0_part3_skel
  simp only [semSignalWord, semWaitWord, Prog.lift, Prog.bind_op, Prog.bind_ret, Prog.pure_eq_ret, wp_deviceId]
  iapply (sig_next m K c 2 (by decide) (dev5_eq c)) $$ [Hst]
  · isplitr; · iexact HR
    iexact Hst
  iintro Hst
  iapply (sig_next m K c 1 (by decide) (dev6_eq c)) $$ [Hst]
  · isplitr; · iexact HR
    iexact Hst
  iintro Hst
  iapply (sig_next m K c 0 (by decide) (dev7_eq c)) $$ [Hst]
  · isplitr; · iexact HR
    iexact Hst
  iintro Hst
  unfold stSig
  rw [todo_none]
  icases Hst with ⟨HO, -⟩
  iapply (barrier_step m K c) $$ [HO Hc Hat]
  · isplitr; · iexact HR
    isplitr; · iexact Hlev
    isplitl [Hc]; · iexact Hc
    isplitl [HO] <;> iassumption
  iintro H
  iapply (bwp_ret c)
  iapply Hk $$ H

end Cert.Moe

end
-- ==== Proof.Body2.lean ====
/-
# The body's second part: the device's own work

The routing matrix, the gathered rows, and the eight products with the weights, each fetched while the one before is
multiplied; then the contribution to every token.
-/
module

public import proofs.«01_k».proof.Proof.State

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Fin 16 → ℕ)

theorem zero2 : (![0, 0] : Fin 2 → ℕ) = fun _ => 0 := by funext i; fin_cases i <;> rfl

/-- A load of all of a buffer: what it holds. -/
theorem load_all (c : Dev nD) {cs : CoreSpace} {s : Shape} {e : EltTy} (M : Memref sig .tc cs s e) (r : LoadRect s) (hl) (f : Buf (Elt F) (M.view.loc (c : Thread nD τ)))
    (v : r.shape.Idx → Elt F e) (hv : M.view.readAt (Elt F) r f = v)
    {α : Type} {Q : α → sProp 𝕄} {kk : (r.shape.Idx → Elt F e) → Prog (TpuEff nD τ sig (Elt F) Λ₀ .tc) α} :
    (M.view.loc (c : Thread nD τ) ↦{fullShare} f)
      ⊢ iprop(((M.view.loc (c : Thread nD τ) ↦{fullShare} f) -∗ bwp c (kk v) Q) -∗ bwp c (.op (.load M r hl) kk) Q) := by
  subst hv
  exact wp_load 𝒱₀ (c : Thread nD τ) none Set.univ (m := M) (Finset.subset_univ _)

/-- A store to a buffer held whole: what it then holds. -/
theorem store_all (c : Dev nD) {cs : CoreSpace} {s : Shape} {e : EltTy} (M : Memref sig .tc cs s e) (r : Rect s) (w) (hx) (hm) (f f' : Buf (Elt F) ((M.access r).loc (c : Thread nD τ)))
    (hv : (M.access r).write (Elt F) f w Finset.univ = f')
    {α : Type} {Q : α → sProp 𝕄} {kk : PUnit → Prog (TpuEff nD τ sig (Elt F) Λ₀ .tc) α} :
    ((M.access r).loc (c : Thread nD τ) ↦{fullShare} f)
      ⊢ iprop((((M.access r).loc (c : Thread nD τ) ↦{fullShare} f') -∗ bwp c (kk ⟨⟩) Q) -∗ bwp c (.op (.store M r w Finset.univ hx hm) kk) Q) := by
  subst hv
  exact wp_store 𝒱₀ (c : Thread nD τ) none Set.univ (m := M) (r := r) (w := w) (f := f) (Finset.subset_univ _)

theorem part4_run (c : Dev nD) {Q : (Σ' (v102 : IVec S2048x1 32) (v107 : FVec F S2048x64 .f32) (v135 : FVec F S2048x64 .f32), FVec F S2048x64 .f32) → sProp 𝕄} :
    iprop((ow c (oweB c 0) ∗ freeHalf (F := F) c 0 ∗ freeHalf c 1 ∗ bigSep Finset.univ (wgtPts m c) ∗ (∃ f, buf c cc0_scratch1 f)) ∗ buf c cc0_stg1_0 (istg m c))
      ⊢ iprop((stA m c 0 -∗ buf c cc0_stg1_0 (istg m c) -∗ Q ⟨k0_pay1 (istg m c), k0_pay2 (istg m c), k0_pay3 (istg m c), k0_pay4 (istg m c)⟩)
          -∗ bwp c (k0_part4 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7) Q) := by
  iintro ⟨Hst, Hi⟩ Hk
  simp only [k0_part4_eq_skeleton]
  unfold k0_part4_skel
  simp only [Prog.lift, Prog.bind_op, Prog.bind_ret, Prog.pure_eq_ret]
  iapply (w_first m c (wS_eq _ 0 rfl) rfl rfl) $$ Hst
  iintro Hst
  iapply (load_all c iM _ _ (istg m c) (istg m c) (Memref.readAt_unit_zero (Elt F) cc0_stg1_0 zero2 _ _)) $$ Hi
  iintro Hi
  iapply (bwp_ret c)
  iapply Hk $$ Hst Hi

theorem part5_run (c : Dev nD) {Q : FVec F S2048x256 .f32 → sProp 𝕄} :
    iprop(∃ f, buf (F := F) c cc0_scratch0 f)
      ⊢ iprop(((∃ f, buf (F := F) c cc0_scratch0 f) -∗ Q (g181 m c))
          -∗ bwp c (k0_part5 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 (dword c) (k0_pay1 (istg m c)) (k0_pay2 (istg m c)) (k0_pay3 (istg m c)) (k0_pay4 (istg m c))) Q) := by
  iintro ⟨%f, Hg⟩ Hk
  simp only [k0_part5_eq_skeleton]
  unfold k0_part5_skel
  simp only [Prog.lift, Prog.bind_op, Prog.bind_ret, Prog.pure_eq_ret]
  iapply (load_all c gM _ _ f _ rfl) $$ Hg
  iintro Hg
  iapply (bwp_ret c)
  unfold g181
  iapply Hk
  iexists f; iexact Hg

theorem part6_run (c : Dev nD) {Q : FVec F S256x1024 .f32 → sProp 𝕄} :
    iprop(levAts L lv ∗ stA m c 0 ∗ (∃ f, buf (F := F) c cc0_scratch0 f) ∗ buf c cc0_stg0_0 (xstg m c))
      ⊢ iprop((stA m c 1 -∗ buf c cc0_scratch0 (G m c) -∗ buf c cc0_stg0_0 (xstg m c) -∗ Q (XG m c))
          -∗ bwp c (k0_part6 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 (g181 m c)) Q) := by
  unfold XG
  iintro ⟨#Hlev, Hst, ⟨%f, Hg⟩, Hx⟩ Hk
  simp only [k0_part6_eq_skeleton]
  unfold k0_part6_skel
  simp only [Prog.lift, Prog.bind_op, Prog.bind_ret, Prog.pure_eq_ret]
  iapply (store_all c gM (Rect.unit (s := S2048x256) ![0, 0] S2048x256.size inb_S2048x256_S2048x256_0_0) (k0_pay6 (g181 m c)) _ _ f (G m c) (Memref.write_access_unit_zero_univ (Elt F) cc0_scratch0 zero2 _ f _)) $$ Hg
  iintro Hg
  iapply (load_all c xM _ _ (xstg m c) (xstg m c) (Memref.readAt_unit_zero (Elt F) cc0_stg0_0 zero2 _ _)) $$ Hx
  iintro Hx
  iapply (w_fetch m c 0 (by decide) (wS_eq _ 1 rfl) rfl rfl) $$ Hst
  iintro Hst
  iapply (w_arrive m c 0 (by decide) (wS_eq _ 0 rfl) rfl) $$ [Hst]
  · isplitr; · iexact Hlev
    iexact Hst
  iintro Hst
  iapply (w_load m c 0 _ rfl) $$ Hst
  iintro Hst
  iapply (w_dead m c 0 _) $$ Hst
  iintro %v Hst
  iapply (w_store m c 0 (by decide) _ rfl rfl) $$ Hst
  iintro Hst
  ihave Hst := (stN_next m c 0) $$ Hst
  iapply (bwp_ret c)
  iapply Hk $$ Hst Hg Hx

theorem part7_run (c : Dev nD) {Q : PUnit → sProp 𝕄} :
    iprop(levAts L lv ∗ stA m c 1) ⊢ iprop((stM m c 2 (rC m c 2) -∗ Q ⟨⟩) -∗ bwp c (k0_part7 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 (XG m c)) Q) := by
  iintro ⟨#Hlev, Hst⟩ Hk
  simp only [k0_part7_eq_skeleton]
  unfold k0_part7_skel
  simp only [Prog.lift, Prog.bind_op, Prog.bind_ret, Prog.pure_eq_ret]
  iapply (w_fetch m c 1 (by decide) (wS_eq _ 0 rfl) rfl rfl) $$ Hst
  iintro Hst
  iapply (w_arrive m c 1 (by decide) (wS_eq _ 1 rfl) rfl) $$ [Hst]
  · isplitr; · iexact Hlev
    iexact Hst
  iintro Hst
  iapply (w_load m c 1 _ rfl) $$ Hst
  iintro Hst
  iapply (w_dead m c 1 _) $$ Hst
  iintro %v Hst
  iapply (w_store m c 1 (by decide) _ rfl rfl) $$ Hst
  iintro Hst
  ihave Hst := (stN_next m c 1) $$ Hst
  iapply (w_fetch m c 2 (by decide) (wS_eq _ 1 rfl) rfl rfl) $$ Hst
  iintro Hst
  iapply (w_arrive m c 2 (by decide) (wS_eq _ 0 rfl) rfl) $$ [Hst]
  · isplitr; · iexact Hlev
    iexact Hst
  iintro Hst
  iapply (bwp_ret c)
  iapply Hk $$ Hst

theorem part8_run (c : Dev nD) {Q : PUnit → sProp 𝕄} :
    iprop(levAts L lv ∗ stM m c 2 (rC m c 2)) ⊢ iprop((stA m c 4 -∗ Q ⟨⟩) -∗ bwp c (k0_part8 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 (XG m c)) Q) := by
  iintro ⟨#Hlev, Hst⟩ Hk
  simp only [k0_part8_eq_skeleton]
  unfold k0_part8_skel
  simp only [Prog.lift, Prog.bind_op, Prog.bind_ret, Prog.pure_eq_ret]
  iapply (w_load m c 2 _ rfl) $$ Hst
  iintro Hst
  iapply (w_dead m c 2 _) $$ Hst
  iintro %v Hst
  iapply (w_store m c 2 (by decide) _ rfl rfl) $$ Hst
  iintro Hst
  ihave Hst := (stN_next m c 2) $$ Hst
  iapply (w_fetch m c 3 (by decide) (wS_eq _ 0 rfl) rfl rfl) $$ Hst
  iintro Hst
  iapply (w_arrive m c 3 (by decide) (wS_eq _ 1 rfl) rfl) $$ [Hst]
  · isplitr; · iexact Hlev
    iexact Hst
  iintro Hst
  iapply (w_load m c 3 _ rfl) $$ Hst
  iintro Hst
  iapply (w_dead m c 3 _) $$ Hst
  iintro %v Hst
  iapply (w_store m c 3 (by decide) _ rfl rfl) $$ Hst
  iintro Hst
  ihave Hst := (stN_next m c 3) $$ Hst
  iapply (bwp_ret c)
  iapply Hk $$ Hst

theorem part9_run (c : Dev nD) {Q : PUnit → sProp 𝕄} :
    iprop(levAts L lv ∗ stA m c 4) ⊢ iprop((stB m c 5 -∗ Q ⟨⟩) -∗ bwp c (k0_part9 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 (XG m c)) Q) := by
  iintro ⟨#Hlev, Hst⟩ Hk
  simp only [k0_part9_eq_skeleton]
  unfold k0_part9_skel
  simp only [Prog.lift, Prog.bind_op, Prog.bind_ret, Prog.pure_eq_ret]
  iapply (w_fetch m c 4 (by decide) (wS_eq _ 1 rfl) rfl rfl) $$ Hst
  iintro Hst
  iapply (w_arrive m c 4 (by decide) (wS_eq _ 0 rfl) rfl) $$ [Hst]
  · isplitr; · iexact Hlev
    iexact Hst
  iintro Hst
  iapply (w_load m c 4 _ rfl) $$ Hst
  iintro Hst
  iapply (w_dead m c 4 _) $$ Hst
  iintro %v Hst
  iapply (w_store m c 4 (by decide) _ rfl rfl) $$ Hst
  iintro Hst
  ihave Hst := (stN_next m c 4) $$ Hst
  iapply (w_fetch m c 5 (by decide) (wS_eq _ 0 rfl) rfl rfl) $$ Hst
  iintro Hst
  iapply (bwp_ret c)
  iapply Hk $$ Hst

theorem part10_run (c : Dev nD) {Q : FVec F S32x1024 .f32 → sProp 𝕄} :
    iprop(levAts L lv ∗ stB m c 5) ⊢ iprop((stM m c 6 (rC m c 6) -∗ Q (k0_pay14 (XG m c) (wv m c (kx 6)))) -∗ bwp c (k0_part10 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 (XG m c)) Q) := by
  iintro ⟨#Hlev, Hst⟩ Hk
  simp only [k0_part10_eq_skeleton]
  unfold k0_part10_skel
  simp only [Prog.lift, Prog.bind_op, Prog.bind_ret, Prog.pure_eq_ret]
  iapply (w_arrive m c 5 (by decide) (wS_eq _ 1 rfl) rfl) $$ [Hst]
  · isplitr; · iexact Hlev
    iexact Hst
  iintro Hst
  iapply (w_load m c 5 _ rfl) $$ Hst
  iintro Hst
  iapply (w_dead m c 5 _) $$ Hst
  iintro %v Hst
  iapply (w_store m c 5 (by decide) _ rfl rfl) $$ Hst
  iintro Hst
  ihave Hst := (stN_next m c 5) $$ Hst
  iapply (w_fetch m c 6 (by decide) (wS_eq _ 1 rfl) rfl rfl) $$ Hst
  iintro Hst
  iapply (w_arrive m c 6 (by decide) (wS_eq _ 0 rfl) rfl) $$ [Hst]
  · isplitr; · iexact Hlev
    iexact Hst
  iintro Hst
  iapply (w_load m c 6 _ rfl) $$ Hst
  iintro Hst
  iapply (w_dead m c 6 _) $$ Hst
  iintro %v Hst
  iapply (bwp_ret c)
  iapply Hk $$ Hst

theorem part11_run (c : Dev nD) {Q : (Σ' (v342 : BitVec 32) (v343 : BitVec 32), BitVec 1) → sProp 𝕄} :
    iprop(levAts L lv ∗ stM m c 6 (rC m c 6) ∗ buf c cc0_scratch0 (G m c) ∗ (∃ f, buf (F := F) c cc0_scratch2 f))
      ⊢ iprop((∀ r, stF m c -∗ buf c cc0_scratch0 (G m c) -∗ buf c cc0_scratch2 (P m c) -∗ Q r)
          -∗ bwp c (k0_part11 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 (dword c) (XG m c) (k0_pay14 (XG m c) (wv m c (kx 6)))) Q) := by
  iintro ⟨#Hlev, Hst, Hg, ⟨%f, Hp⟩⟩ Hk
  simp only [k0_part11_eq_skeleton]
  unfold k0_part11_skel
  simp only [Prog.lift, Prog.bind_op, Prog.bind_ret, Prog.pure_eq_ret]
  iapply (w_store m c 6 (by decide) _ rfl rfl) $$ Hst
  iintro Hst
  ihave Hst := (stN_next m c 6) $$ Hst
  iapply (w_last m c (wS_eq _ 1 rfl) rfl) $$ [Hst]
  · isplitr; · iexact Hlev
    iexact Hst
  iintro Hst
  iapply (w_load m c 7 _ rfl) $$ Hst
  iintro Hst
  iapply (w_dead m c 7 _) $$ Hst
  iintro %v Hst
  iapply (w_store m c 7 (by decide) _ rfl rfl) $$ Hst
  iintro Hst
  ihave Hst := (stN_end m c) $$ Hst
  iapply (load_all c gM _ _ (G m c) (G m c) (Memref.readAt_unit_zero (Elt F) cc0_scratch0 zero2 _ _)) $$ Hg
  iintro Hg
  unfold stF
  icases Hst with ⟨HO, H0, H1, Hw, Hy⟩
  iapply (load_all c yM _ _ (Y m c) (Y m c) (Memref.readAt_unit_zero (Elt F) cc0_scratch1 zero2 _ _)) $$ Hy
  iintro Hy
  iapply (load_all c pM _ _ f _ rfl) $$ Hp
  iintro Hp
  iapply (store_all c pM (Rect.unit (s := S2048x1024) ![0, 0] S2048x1024.size inb_S2048x1024_S2048x1024_0_0) (k0_pay17 (G m c) (Y m c)) _ _ f (P m c) (Memref.write_access_unit_zero_univ (Elt F) cc0_scratch2 zero2 _ f _)) $$ Hp
  iintro Hp
  iapply (bwp_ret c)
  iapply Hk $$ [HO H0 H1 Hw Hy] Hg Hp
  isplitl [HO]; · iexact HO
  isplitl [H0]; · iexact H0
  isplitl [H1]; · iexact H1
  isplitl [Hw] <;> iassumption

end Cert.Moe

end
-- ==== Proof.Body3.lean ====
/-
# The body's third part: the exchange

Seven transfers, one to each other device; the device's own rows put in its own slot; the waits for what the others
send; the sum; and the waits for what was sent.
-/
module

public import proofs.«01_k».proof.Proof.Body2

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Fin 16 → ℕ)

theorem part12_run (c : Dev nD) (a b : BitVec 32) (e : BitVec 1) {Q : (Σ' (v382 : BitVec 32) (c8_i32_274 : BitVec 32), BitVec 32) → sProp 𝕄} :
    iprop(records m K ∗ stSend m c 7) ⊢ iprop((∀ r, stSend m c 5 -∗ Q r) -∗ bwp c (k0_part12 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 c (dword c) a b e) Q) := by
  iintro ⟨#HR, Hst⟩ Hk
  simp only [k0_part12_eq_skeleton]
  unfold k0_part12_skel
  simp only [Prog.lift, Prog.bind_op, Prog.bind_ret, Prog.pure_eq_ret]
  iapply (send_next m K c 6 (by decide) (dev8_eq c) (blkM_eq _ _ (off3_eq c 0)) (slotM_eq _ _ (k0_off2_eq c)) (sendS_eq _ 0 rfl) (recvS_eq _ _ (k0_off1_eq c))) $$ [Hst]
  · isplitr; · iexact HR
    iexact Hst
  iintro Hst
  iapply (send_next m K c 5 (by decide) (dev9_eq c) (blkM_eq _ _ (off3_eq c 1)) (slotM_eq _ _ (k0_off2_eq c)) (sendS_eq _ 1 rfl) (recvS_eq _ _ (k0_off1_eq c))) $$ [Hst]
  · isplitr; · iexact HR
    iexact Hst
  iintro Hst
  iapply (bwp_ret c)
  iapply Hk $$ Hst

theorem part13_run (c : Dev nD) (a b e : BitVec 32) {Q : PUnit → sProp 𝕄} :
    iprop(records m K ∗ stSend m c 5) ⊢ iprop((stSend m c 4 -∗ Q ⟨⟩) -∗ bwp c (k0_part13 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 c (dword c) a b e) Q) := by
  iintro ⟨#HR, Hst⟩ Hk
  simp only [k0_part13_eq_skeleton]
  unfold k0_part13_skel
  simp only [Prog.lift, Prog.bind_op, Prog.bind_ret, Prog.pure_eq_ret]
  iapply (send_next m K c 4 (by decide) (dev10_eq c) (blkM_eq _ _ (off3_eq c 2)) (slotM_eq _ _ (k0_off2_eq c)) (sendS_eq _ 2 rfl) (recvS_eq _ _ (k0_off1_eq c))) $$ [Hst]
  · isplitr; · iexact HR
    iexact Hst
  iintro Hst
  iapply (bwp_ret c)
  iapply Hk $$ Hst

theorem part14_run (c : Dev nD) {Q : (Σ' (v447 : BitVec 32) (v448 : BitVec 32), BitVec 1) → sProp 𝕄} :
    iprop(records m K ∗ stSend m c 4) ⊢ iprop((∀ r, stSend m c 2 -∗ Q r) -∗ bwp c (k0_part14 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 c (dword c)) Q) := by
  iintro ⟨#HR, Hst⟩ Hk
  simp only [k0_part14_eq_skeleton]
  unfold k0_part14_skel
  simp only [Prog.lift, Prog.bind_op, Prog.bind_ret, Prog.pure_eq_ret]
  iapply (send_next m K c 3 (by decide) (dev11_eq c) (blkM_eq _ _ (off3_eq c 3)) (slotM_eq _ _ (k0_off2_eq c)) (sendS_eq _ 3 rfl) (recvS_eq _ _ (k0_off1_eq c))) $$ [Hst]
  · isplitr; · iexact HR
    iexact Hst
  iintro Hst
  iapply (send_next m K c 2 (by decide) (dev12_eq c) (blkM_eq _ _ (off3_eq c 4)) (slotM_eq _ _ (k0_off2_eq c)) (sendS_eq _ 4 rfl) (recvS_eq _ _ (k0_off1_eq c))) $$ [Hst]
  · isplitr; · iexact HR
    iexact Hst
  iintro Hst
  iapply (bwp_ret c)
  iapply Hk $$ Hst

theorem part15_run (c : Dev nD) (a b : BitVec 32) (e : BitVec 1) {Q : PUnit → sProp 𝕄} :
    iprop(records m K ∗ stSend m c 2) ⊢ iprop((stSend m c 0 -∗ Q ⟨⟩) -∗ bwp c (k0_part15 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 c (dword c) a b e) Q) := by
  iintro ⟨#HR, Hst⟩ Hk
  simp only [k0_part15_eq_skeleton]
  unfold k0_part15_skel
  simp only [Prog.lift, Prog.bind_op, Prog.bind_ret, Prog.pure_eq_ret]
  iapply (send_next m K c 1 (by decide) (dev13_eq c) (blkM_eq _ _ (off3_eq c 5)) (slotM_eq _ _ (k0_off2_eq c)) (sendS_eq _ 5 rfl) (recvS_eq _ _ (k0_off1_eq c))) $$ [Hst]
  · isplitr; · iexact HR
    iexact Hst
  iintro Hst
  iapply (send_next m K c 0 (by decide) (dev14_eq c) (blkM_eq _ _ (off3_eq c 6)) (slotM_eq _ _ (k0_off2_eq c)) (sendS_eq _ 6 rfl) (recvS_eq _ _ (k0_off1_eq c))) $$ [Hst]
  · isplitr; · iexact HR
    iexact Hst
  iintro Hst
  iapply (bwp_ret c)
  iapply Hk $$ Hst

/-- The elements a slot's load or store names are the slot's. -/
theorem slot_access (q : Fin 8) {o : Fin 3 → ℕ} (ho : o = ![q.val, 0, 0]) (h : ∀ a, o a + S1x256x1024.size a ≤ S8x256x1024.size a) :
    (rM.access (Rect.unit (s := S8x256x1024) o S1x256x1024.size h)).set ⊆ (slotM q).view.set := by
  subst ho; intro i hi
  rw [Memref.set_view_squeeze]; exact hi
theorem slot_access' (q : Fin 8) {o : Fin 3 → ℕ} (ho : o = ![q.val, 0, 0]) (h : ∀ a, o a + S1x256x1024.size a ≤ S8x256x1024.size a) :
    rM.view.setOn (Rect.unit (s := S8x256x1024) o S1x256x1024.size h).toLoadRect.set ⊆ (slotM q).view.set := by
  have := slot_access q ho h
  rwa [View.set_slice] at this
theorem blk_access (d : Fin 8) {o : Fin 2 → ℕ} (ho : o = ![256 * d.val, 0]) (h : ∀ a, o a + S256x1024.size a ≤ S2048x1024.size a) :
    pM.view.setOn (Rect.unit (s := S2048x1024) o S256x1024.size h).toLoadRect.set ⊆ (blkM d).view.set := by
  subst ho
  have : (blkM d).view.set ⊆ (blkM d).view.set := Finset.Subset.refl _
  conv at this => lhs; rw [View.set_slice]
  exact this

theorem part16_run (c : Dev nD) {Q : BitVec 32 → sProp 𝕄} :
    iprop(records m K ∗ stRecv m c 7 ∗ blkPts c c (P m c) ∗ (∃ f, slotPts c c f))
      ⊢ iprop((∀ r, stRecv m c 6 -∗ blkPts c c (P m c) -∗ slotPts c c (RC m c) -∗ Q r) -∗ bwp c (k0_part16 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 c (dword c)) Q) := by
  iintro ⟨#HR, Hst, Hb, ⟨%f, Hs⟩⟩ Hk
  simp only [k0_part16_eq_skeleton]
  unfold k0_part16_skel
  simp only [Prog.lift, Prog.bind_op, Prog.bind_ret, Prog.pure_eq_ret]
  unfold blkPts slotPts
  iapply (wp_load 𝒱₀ (c : Thread nD τ) none Set.univ (m := pM) (blk_access c (k0_off4_eq c) _)) $$ Hb
  iintro Hb
  iapply (wp_load 𝒱₀ (c : Thread nD τ) none Set.univ (m := rM) (slot_access' c (k0_off5_eq c) _)) $$ Hs
  iintro Hs
  rw [load_blk m c c (k0_off4_eq c) (k0_off4_inb c)]
  iapply (wp_store 𝒱₀ (c : Thread nD τ) none Set.univ (m := rM) (r := Rect.unit (s := S8x256x1024) (k0_off5 c) S1x256x1024.size (k0_off5_inb c))
    (w := rv m c c) (f := f) (slot_access c (k0_off5_eq c) _)) $$ Hs
  iintro Hs
  ihave Hs := (Entails.of_eq (pointsTo_congr (store_slot m c c (k0_off5_eq c) (k0_off5_inb c) f))) $$ Hs
  iapply (recv_next m K c 6 (by decide) (recvS_eq _ _ (off6_eq c 0)) (slotM_eq _ _ (off7_eq c 0))) $$ [Hst]
  · isplitr; · iexact HR
    iexact Hst
  iintro Hst
  iapply (bwp_ret c)
  iapply Hk $$ Hst Hb Hs

theorem part17_run (c : Dev nD) (a : BitVec 32) {Q : (Σ' (v551 : BitVec 32) (v552 : BitVec 32) (v553 : BitVec 1), BitVec 1) → sProp 𝕄} :
    iprop(records m K ∗ stRecv m c 6) ⊢ iprop((∀ r, stRecv m c 4 -∗ Q r) -∗ bwp c (k0_part17 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 c (dword c) a) Q) := by
  iintro ⟨#HR, Hst⟩ Hk
  simp only [k0_part17_eq_skeleton]
  unfold k0_part17_skel
  simp only [Prog.lift, Prog.bind_op, Prog.bind_ret, Prog.pure_eq_ret]
  iapply (recv_next m K c 5 (by decide) (recvS_eq _ _ (off6_eq c 1)) (slotM_eq _ _ (off7_eq c 1))) $$ [Hst]
  · isplitr; · iexact HR
    iexact Hst
  iintro Hst
  iapply (recv_next m K c 4 (by decide) (recvS_eq _ _ (off6_eq c 2)) (slotM_eq _ _ (off7_eq c 2))) $$ [Hst]
  · isplitr; · iexact HR
    iexact Hst
  iintro Hst
  iapply (bwp_ret c)
  iapply Hk $$ Hst

theorem part18_run (c : Dev nD) (a b : BitVec 32) (e e' : BitVec 1) {Q : (Σ' (v585 : BitVec 32) (c8_i32_418 : BitVec 32) (v586 : BitVec 1), BitVec 32) → sProp 𝕄} :
    iprop(records m K ∗ stRecv m c 4) ⊢ iprop((∀ r, stRecv m c 2 -∗ Q r) -∗ bwp c (k0_part18 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 c (dword c) a b e e') Q) := by
  iintro ⟨#HR, Hst⟩ Hk
  simp only [k0_part18_eq_skeleton]
  unfold k0_part18_skel
  simp only [Prog.lift, Prog.bind_op, Prog.bind_ret, Prog.pure_eq_ret]
  iapply (recv_next m K c 3 (by decide) (recvS_eq _ _ (off6_eq c 3)) (slotM_eq _ _ (off7_eq c 3))) $$ [Hst]
  · isplitr; · iexact HR
    iexact Hst
  iintro Hst
  iapply (recv_next m K c 2 (by decide) (recvS_eq _ _ (off6_eq c 4)) (slotM_eq _ _ (off7_eq c 4))) $$ [Hst]
  · isplitr; · iexact HR
    iexact Hst
  iintro Hst
  iapply (bwp_ret c)
  iapply Hk $$ Hst

theorem part19_run (c : Dev nD) (a b : BitVec 32) (e : BitVec 1) (d : BitVec 32) {Q : PUnit → sProp 𝕄} :
    iprop(records m K ∗ stRecv m c 2) ⊢ iprop((stRecv m c 0 -∗ Q ⟨⟩) -∗ bwp c (k0_part19 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 c (dword c) a b e d) Q) := by
  iintro ⟨#HR, Hst⟩ Hk
  simp only [k0_part19_eq_skeleton]
  unfold k0_part19_skel
  simp only [Prog.lift, Prog.bind_op, Prog.bind_ret, Prog.pure_eq_ret]
  iapply (recv_next m K c 1 (by decide) (recvS_eq _ _ (off6_eq c 5)) (slotM_eq _ _ (off7_eq c 5))) $$ [Hst]
  · isplitr; · iexact HR
    iexact Hst
  iintro Hst
  iapply (recv_next m K c 0 (by decide) (recvS_eq _ _ (off6_eq c 6)) (slotM_eq _ _ (off7_eq c 6))) $$ [Hst]
  · isplitr; · iexact HR
    iexact Hst
  iintro Hst
  iapply (bwp_ret c)
  iapply Hk $$ Hst

/-- The sum: every slot loaded, the result stored. -/
theorem part20_run (c : Dev nD) {Q : PUnit → sProp 𝕄} :
    iprop(buf c cc0_scratch3 (RC m c) ∗ (∃ f, buf (F := F) c cc0_stg2_0 f))
      ⊢ iprop((buf c cc0_scratch3 (RC m c) -∗ buf c cc0_stg2_0 (outAt m c) -∗ Q ⟨⟩) -∗ bwp c (k0_part20 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 c) Q) := by
  unfold outAt
  iintro ⟨Hr, ⟨%f, Ho⟩⟩ Hk
  simp only [k0_part20_eq_skeleton]
  unfold k0_part20_skel
  simp only [Prog.lift, Prog.bind_op, Prog.bind_ret, Prog.pure_eq_ret]
  iapply (load_all c rM _ _ (RC m c) (rv m c 0) (load_slot m c 0 rfl _)) $$ Hr
  iintro Hr
  iapply (load_all c rM _ _ (RC m c) (rv m c 1) (load_slot m c 1 rfl _)) $$ Hr
  iintro Hr
  iapply (load_all c rM _ _ (RC m c) (rv m c 2) (load_slot m c 2 rfl _)) $$ Hr
  iintro Hr
  iapply (load_all c rM _ _ (RC m c) (rv m c 3) (load_slot m c 3 rfl _)) $$ Hr
  iintro Hr
  iapply (load_all c rM _ _ (RC m c) (rv m c 4) (load_slot m c 4 rfl _)) $$ Hr
  iintro Hr
  iapply (load_all c rM _ _ (RC m c) (rv m c 5) (load_slot m c 5 rfl _)) $$ Hr
  iintro Hr
  iapply (load_all c rM _ _ (RC m c) (rv m c 6) (load_slot m c 6 rfl _)) $$ Hr
  iintro Hr
  iapply (load_all c rM _ _ (RC m c) (rv m c 7) (load_slot m c 7 rfl _)) $$ Hr
  iintro Hr
  iapply (load_all c oM _ _ f _ rfl) $$ Ho
  iintro Ho
  iapply (store_all c oM (Rect.unit (s := S256x1024) ![0, 0] S256x1024.size inb_S256x1024_S256x1024_0_0)
    (k0_pay19 (rv m c 0) (rv m c 1) (rv m c 2) (rv m c 3) (rv m c 4) (rv m c 5) (rv m c 6) (rv m c 7)) _ _ f _
    (Memref.write_access_unit_zero_univ (Elt F) cc0_stg2_0 zero2 _ f _)) $$ Ho
  iintro Ho
  iapply (bwp_ret c)
  iapply Hk $$ Hr Ho

theorem part21_run (c : Dev nD) {Q : PUnit → sProp 𝕄} :
    iprop(records m K ∗ stSent m c 7) ⊢ iprop((stSent m c 1 -∗ Q ⟨⟩) -∗ bwp c (k0_part21 xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7 c) Q) := by
  iintro ⟨#HR, Hst⟩ Hk
  simp only [k0_part21_eq_skeleton]
  unfold k0_part21_skel
  simp only [Prog.lift, Prog.bind_op, Prog.bind_ret, Prog.pure_eq_ret]
  iapply (sent_next m K c 6 (by decide) (sendS_eq _ 0 rfl) (blkM_eq _ _ (off3_eq c 0))) $$ [Hst]
  · isplitr; · iexact HR
    iexact Hst
  iintro Hst
  iapply (sent_next m K c 5 (by decide) (sendS_eq _ 1 rfl) (blkM_eq _ _ (off3_eq c 1))) $$ [Hst]
  · isplitr; · iexact HR
    iexact Hst
  iintro Hst
  iapply (sent_next m K c 4 (by decide) (sendS_eq _ 2 rfl) (blkM_eq _ _ (off3_eq c 2))) $$ [Hst]
  · isplitr; · iexact HR
    iexact Hst
  iintro Hst
  iapply (sent_next m K c 3 (by decide) (sendS_eq _ 3 rfl) (blkM_eq _ _ (off3_eq c 3))) $$ [Hst]
  · isplitr; · iexact HR
    iexact Hst
  iintro Hst
  iapply (sent_next m K c 2 (by decide) (sendS_eq _ 4 rfl) (blkM_eq _ _ (off3_eq c 4))) $$ [Hst]
  · isplitr; · iexact HR
    iexact Hst
  iintro Hst
  iapply (sent_next m K c 1 (by decide) (sendS_eq _ 5 rfl) (blkM_eq _ _ (off3_eq c 5))) $$ [Hst]
  · isplitr; · iexact HR
    iexact Hst
  iintro Hst
  iapply (bwp_ret c)
  iapply Hk $$ Hst

end Cert.Moe

end
-- ==== Proof.Join.lean ====
/-
# The buffers taken apart and put together

The landing buffer is its eight slots, `p` its eight blocks, the weights their eight matrices and the weight buffer its two
halves; of eight one is a device's own and the others its peers'. Then each loop's first and last state.
-/
module

public import proofs.«01_k».proof.Proof.Body1
public import proofs.«01_k».proof.Proof.Body3
public import Idealize.ShloMosaic.Lib.Ring

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

/-! ## Buffers -/

omit [FloatOps F] in
/-- A buffer is the parts of a partition of its elements. -/
theorem parts_of {n : ℕ} {ℓ : Loc nD τ sig} (I : Fin n → Finset (Idx ℓ)) (hd : ∀ q q', q ≠ q' → Disjoint (I q) (I q'))
    (hc : ∀ i, ∃ q, i ∈ I q) (f : Buf (Elt F) ℓ) :
    (ℓ ↦{fullShare} f : sProp 𝕄) = bigSep Finset.univ fun q : Fin n => (ℓ ↦[I q]{fullShare} f : sProp 𝕄) := by
  refine Ring.pointsTo_blocks I hd (Finset.eq_univ_of_forall fun i => ?_) f
  obtain ⟨q, h⟩ := hc i
  exact Finset.mem_biUnion.mpr ⟨q, Finset.mem_univ _, h⟩
omit [FloatOps F] in
/-- The parts of a partition, whatever they hold, make up the buffer. -/
theorem whole_of {n : ℕ} {ℓ : Loc nD τ sig} (I : Fin n → Finset (Idx ℓ)) (hd : ∀ q q', q ≠ q' → Disjoint (I q) (I q'))
    (hc : ∀ i, ∃ q, i ∈ I q) (f₀ : Buf (Elt F) ℓ) :
    (bigSep Finset.univ fun q : Fin n => iprop(∃ f, ℓ ↦[I q]{fullShare} f)) ⊢ (iprop(∃ f, ℓ ↦{fullShare} f) : sProp 𝕄) := by
  refine Ring.pointsTo_blocks_join_exists I hd (Finset.eq_univ_of_forall fun i => ?_) f₀
  obtain ⟨q, h⟩ := hc i
  exact Finset.mem_biUnion.mpr ⟨q, Finset.mem_univ _, h⟩

theorem slot_disjoint (b b' : Fin 8) (h : b ≠ b') : Disjoint (slotM b).view.set (slotM b').view.set :=
  Finset.disjoint_left.mpr fun i h1 h2 => h (Fin.ext (((mem_slot b i).mp h1).symm.trans ((mem_slot b' i).mp h2)))
theorem wgt_disjoint (b b' : Fin 8) (h : b ≠ b') : Disjoint (wgtM b).view.set (wgtM b').view.set :=
  Finset.disjoint_left.mpr fun i h1 h2 => h (Fin.ext (((mem_wgt b i).mp h1).symm.trans ((mem_wgt b' i).mp h2)))
theorem half_disjoint (b b' : Fin 2) (h : b ≠ b') : Disjoint (halfM b).view.set (halfM b').view.set :=
  Finset.disjoint_left.mpr fun i h1 h2 => h (Fin.ext (((mem_half b i).mp h1).symm.trans ((mem_half b' i).mp h2)))
theorem blk_disjoint (b b' : Fin 8) (h : b ≠ b') : Disjoint (blkM b).view.set (blkM b').view.set :=
  Finset.disjoint_left.mpr fun i h1 h2 => h (by
    have h1 := (mem_blk b i).mp h1; have h2 := (mem_blk b' i).mp h2
    exact Fin.ext (by omega))
theorem slot_cover (i : S8x256x1024.Idx) : ∃ q, i ∈ (slotM q).view.set := ⟨⟨(i 0).val, (i 0).isLt⟩, (mem_slot _ i).mpr rfl⟩
theorem wgt_cover (i : S8x1024x1024.Idx) : ∃ q, i ∈ (wgtM q).view.set := ⟨⟨(i 0).val, (i 0).isLt⟩, (mem_wgt _ i).mpr rfl⟩
theorem half_cover (i : S2x1024x1024.Idx) : ∃ q, i ∈ (halfM q).view.set := ⟨⟨(i 0).val, (i 0).isLt⟩, (mem_half _ i).mpr rfl⟩
theorem blk_cover (i : S2048x1024.Idx) : ∃ q, i ∈ (blkM q).view.set := by
  have hi : (i 0).val < 2048 := (i 0).isLt
  exact ⟨⟨(i 0).val / 256, by omega⟩, (mem_blk _ i).mpr (by dsimp only; omega)⟩

omit [FloatOps F] in
/-- The landing buffer is its slots. -/
theorem slots_split (c : Dev nD) (f : (cc0_scratch3 : Ref sig .tc).ty.Contents (Elt F)) :
    buf c cc0_scratch3 f = bigSep Finset.univ fun q : Fin 8 => slotPts c q f :=
  (parts_of (ℓ := (c : Thread nD τ).loc cc0_scratch3) (fun q => (slotM q).view.set) slot_disjoint slot_cover f).trans (bigSep_congr fun q _ => by unfold slotPts; rfl)
omit [FloatOps F] in
/-- `p` is its blocks. -/
theorem blks_split (c : Dev nD) (f : (cc0_scratch2 : Ref sig .tc).ty.Contents (Elt F)) :
    buf c cc0_scratch2 f = bigSep Finset.univ fun d : Fin 8 => blkPts c d f :=
  (parts_of (ℓ := (c : Thread nD τ).loc cc0_scratch2) (fun q => (blkM q).view.set) blk_disjoint blk_cover f).trans (bigSep_congr fun q _ => by unfold blkPts; rfl)
omit [FloatOps F] in
/-- The weights are their matrices. -/
theorem wgts_split (c : Dev nD) :
    buf c main_arg2 (m ((c : Thread nD τ).loc main_arg2)) = bigSep Finset.univ (wgtPts m c) :=
  (parts_of (ℓ := (c : Thread nD τ).loc main_arg2) (fun q => (wgtM q).view.set) wgt_disjoint wgt_cover _).trans (bigSep_congr fun q _ => by unfold wgtPts; rfl)

omit [FloatOps F] in
theorem two_of (Φ : Fin 2 → sProp 𝕄) : bigSep Finset.univ Φ = iprop(Φ 0 ∗ Φ 1) := BI.bigSep_fin_two Φ
omit [FloatOps F] in
/-- The weight buffer is its two halves, -/
theorem halfs_split (c : Dev nD) (f : (cc0_scratch4 : Ref sig .tc).ty.Contents (Elt F)) :
    buf c cc0_scratch4 f = iprop(halfPts c 0 f ∗ halfPts c 1 f) :=
  ((parts_of (ℓ := (c : Thread nD τ).loc cc0_scratch4) (fun q => (halfM q).view.set) half_disjoint half_cover f).trans (bigSep_congr fun q _ => by unfold halfPts; rfl)).trans
    (two_of fun s => halfPts c s f)
omit [FloatOps F] in
/-- and the halves, whatever they hold, make it up. -/
theorem halfs_join (c : Dev nD) (f₀ : (cc0_scratch4 : Ref sig .tc).ty.Contents (Elt F)) :
    iprop((∃ f, halfPts (F := F) c 0 f) ∗ (∃ f, halfPts c 1 f)) ⊢ iprop(∃ f, buf c cc0_scratch4 f) :=
  ((Entails.of_eq (two_of fun s => iprop(∃ f, halfPts (F := F) c s f)).symm).trans
    (Entails.of_eq (bigSep_congr fun q _ => by unfold halfPts; rfl))).trans
      (whole_of (ℓ := (c : Thread nD τ).loc cc0_scratch4) (fun q => (halfM q).view.set) half_disjoint half_cover f₀)

/-- Of all eight, a device's own and its peers'. -/
theorem own_peers (c : Dev nD) (Φ : Fin 8 → sProp 𝕄) :
    bigSep Finset.univ Φ = iprop(Φ c ∗ bigSep Finset.univ fun j : Fin 7 => Φ (peer c j)) := by
  rw [one_of (Finset.mem_univ c) Φ, bigSep_peers]

/-! ## The loops' first and last states -/

theorem sig_start (c : Dev nD) (f : (cc0_scratch3 : Ref sig .tc).ty.Contents (Elt F)) :
    iprop(ow c (O₀ c) ∗ (bigSep Finset.univ fun j : Fin 7 => dutyTok ER (barCell (peer c j)) 0 c)
        ∗ bigSep Finset.univ fun j : Fin 7 => slotPts c (peer c j) f) ⊢ stSig (F := F) c 7 := by
  unfold stSig
  rw [todo_all]
  unfold sigNeed
  rw [bigSep_sep']
  iintro ⟨Ho, Ht, Hs⟩
  isplitl [Ho]; · iexact Ho
  isplitl [Ht]; · iexact Ht
  iapply (show (bigSep Finset.univ fun j : Fin 7 => slotPts c (peer c j) f) ⊢ (bigSep Finset.univ fun j : Fin 7 => iprop(∃ f, slotPts c (peer c j) f) : sProp 𝕄)
    from bigSep_mono fun j _ => show (slotPts c (peer c j) f : sProp 𝕄) ⊢ iprop(∃ f, slotPts c (peer c j) f) from by iintro H; iexists f; iexact H)
  iexact Hs

theorem send_start (c : Dev nD) :
    iprop(ow c (oweB c 0) ∗ (bigSep Finset.univ fun j : Fin 7 => blkPts c (peer c j) (P m c)) ∗ (bigSep Finset.univ fun j : Fin 7 => barPay c (peer c j))
        ∗ (bigSep Finset.univ fun j : Fin 7 => dutyTok ER (sendCell c j) 0 0) ∗ (bigSep Finset.univ fun j : Fin 7 => dutyTok ER (recvCell (peer c j) c) 0 c))
      ⊢ stSend m c 7 := by
  unfold stSend
  rw [todo_all, past_none]
  unfold sendNeed
  rw [bigSep_sep', bigSep_sep', bigSep_sep']
  iintro ⟨Ho, Hb, Hp, Ht, Hu⟩
  isplitl [Ho]; · iexact Ho
  isplitr []
  · isplitl [Hb]; · iexact Hb
    isplitl [Hp]; · iexact Hp
    isplitl [Ht]; · iexact Ht
    iexact Hu
  · iempintro

theorem send_stop (c : Dev nD) : stSend m c 0 ⊢ iprop(ow c 0 ∗ bigSep Finset.univ (sentCr (F := F) c)) := by
  unfold stSend
  rw [past_all]
  iintro ⟨Ho, -, H⟩
  isplitl [Ho]; · iexact Ho
  iexact H

theorem recv_start (c : Dev nD) :
    iprop(ow c 0 ∗ (bigSep Finset.univ fun j : Fin 7 => cred (tallyAt (recvCell c (peer c j)) () N))
        ∗ (bigSep Finset.univ fun j : Fin 7 => atPos ER (recvCell c (peer c j)) 0 ∅ 0)) ⊢ stRecv m c 7 := by
  unfold stRecv
  rw [todo_all, past_none]
  unfold recvNeed
  rw [bigSep_sep']
  iintro ⟨Ho, Hc, Ha⟩
  isplitl [Ho]; · iexact Ho
  isplitr []
  · isplitl [Hc]; · iexact Hc
    iexact Ha
  · iempintro

theorem recv_stop (c : Dev nD) : stRecv m c 0 ⊢ iprop(ow c 0 ∗ (bigSep Finset.univ fun j : Fin 7 => semVal (recvCell c (peer c j)) 0)
    ∗ bigSep Finset.univ fun j : Fin 7 => slotPts c (peer c j) (RC m c)) := by
  unfold stRecv
  rw [past_all]
  unfold recvHas
  rw [bigSep_sep']
  iintro ⟨Ho, -, H⟩
  isplitl [Ho]; · iexact Ho
  iexact H

theorem sent_start (c : Dev nD) :
    iprop(ow c 0 ∗ bigSep Finset.univ (sentCr (F := F) c) ∗ (bigSep Finset.univ fun j : Fin 7 => atPos ER (sendCell c j) 0 ∅ 0)) ⊢ stSent m c 7 := by
  unfold stSent
  rw [todo_all, past_none]
  unfold sentNeed
  rw [bigSep_sep']
  iintro ⟨Ho, Hc, Ha⟩
  isplitl [Ho]; · iexact Ho
  isplitr []
  · isplitl [Hc]; · iexact Hc
    iexact Ha
  · iempintro

theorem sent_stop (c : Dev nD) : stSent m c 0 ⊢ iprop(ow c 0 ∗ (bigSep Finset.univ fun j : Fin 7 => semVal (sendCell c j) 0)
    ∗ bigSep Finset.univ fun j : Fin 7 => blkPts c (peer c j) (P m c)) := by
  unfold stSent
  rw [past_all]
  unfold sentHas
  rw [bigSep_sep']
  iintro ⟨Ho, -, H⟩
  isplitl [Ho]; · iexact Ho
  iexact H

end Cert.Moe

end
-- ==== Proof.Body.lean ====
/-
# The whole body

What the body starts from and ends with on one device, and the run between, part after part.
-/
module

public import proofs.«01_k».proof.Proof.Join

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)
variable (K : Dev nD × Fin 16 → ℕ)

/-- The tokens of the duties device `c` pays. -/
def payToks (c : Dev nD) : sProp 𝕄 :=
  iprop((bigSep Finset.univ fun j : Fin 7 => dutyTok ER (barCell (peer c j)) 0 c)
    ∗ (bigSep Finset.univ fun j : Fin 7 => dutyTok ER (recvCell (peer c j) c) 0 c)
    ∗ (bigSep Finset.univ fun j : Fin 7 => dutyTok ER (sendCell c j) 0 0))
/-- Its positions at its own cells. -/
def places (c : Dev nD) : sProp 𝕄 :=
  iprop(atPos ER (barCell c) 0 ∅ 0 ∗ (bigSep Finset.univ fun j : Fin 7 => atPos ER (sendCell c j) 0 ∅ 0)
    ∗ (bigSep Finset.univ fun q : Fin 8 => atPos ER (recvCell c q) 0 ∅ 0))
/-- The credits it is granted at launch. -/
def credits (c : Dev nD) : sProp 𝕄 :=
  iprop(cred (tallyAt (barCell c) () 7) ∗ (bigSep Finset.univ fun j : Fin 7 => cred (tallyAt (recvCell c (peer c j)) () N)))
/-- The counters of the weight copies at zero. -/
def wZero (c : Dev nD) : sProp 𝕄 :=
  iprop(semVal ((c : Thread nD τ), .dma (wS 0)) 0 ∗ semVal ((c : Thread nD τ), .dma (wS 1)) 0)
/-- The sixteen cells' counters at zero. -/
def cellZero (c : Dev nD) : sProp 𝕄 :=
  iprop(semVal (barCell c) 0 ∗ (bigSep Finset.univ fun j : Fin 7 => semVal (sendCell c j) 0)
    ∗ (bigSep Finset.univ fun q : Fin 8 => semVal (recvCell c q) 0))
/-- The five scratch buffers, whatever they hold. -/
def scratch (c : Dev nD) : sProp 𝕄 :=
  iprop((∃ f, buf c cc0_scratch0 f) ∗ (∃ f, buf c cc0_scratch1 f) ∗ (∃ f, buf c cc0_scratch2 f) ∗ (∃ f, buf c cc0_scratch3 f)
    ∗ (∃ f, buf c cc0_scratch4 f))
/-- The weights, as at launch. -/
def weights (c : Dev nD) : sProp 𝕄 := buf c main_arg2 (m ((c : Thread nD τ).loc main_arg2))

/-- A device's own receive cell, which nobody pays into, closes at once. -/
theorem own_close (c : Dev nD) : iprop(records m K ∗ atPos ER (recvCell c c) 0 ∅ 0) ⊢ |={Set.univ}=> semVal (recvCell c c) 0 := by
  iintro ⟨#HR, Hat⟩
  ihave Hr := (rec_recv m K c c) $$ HR
  icases Hr with ⟨#HI, -⟩
  iapply (Rounds.cell_close ER (Rd m) (Set.mem_univ (K (c, rIx c))) (fun h => h) (R := 0) (fun r _ => duties_own m c r))
  isplitr; · iexact HI
  iexact Hat

theorem bwp_bind (c : Dev nD) {α β : Type} (p : Prog (TpuEff nD τ sig (Elt F) Λ₀ .tc) α)
    (k : α → Prog (TpuEff nD τ sig (Elt F) Λ₀ .tc) β) (Q : β → sProp 𝕄) :
    bwp c p (fun a => bwp c (k a) Q) ⊢ bwp c (p >>= k) Q := by
  show bwp c p (fun a => bwp c (k a) Q) ⊢ wp _ _ _ (p >>= k) Q
  rw [wp_bind]

theorem bwp_fupd (c : Dev nD) {α : Type} (p : Prog (TpuEff nD τ sig (Elt F) Λ₀ .tc) α) (Q : α → sProp 𝕄) :
    iprop(|={Set.univ}=> bwp c p Q) ⊢ bwp c p Q := fupd_wp _ _ _ _ _

/-- The body on device `c`: from its start, every run ends with the blocks summed into the output, its buffers and
    the weights back and every counter at zero. -/
theorem body_run (c : Dev nD) {Q : PUnit → sProp 𝕄} :
    iprop((records m K ∗ levAts L lv) ∗ (ow c (O₀ c) ∗ payToks c ∗ places c ∗ credits c ∗ wZero c)
        ∗ (weights m c ∗ scratch c) ∗ buf c cc0_stg0_0 (xstg m c) ∗ buf c cc0_stg1_0 (istg m c) ∗ (∃ f, buf c cc0_stg2_0 f))
      ⊢ iprop(((ow c 0 ∗ cellZero c ∗ wZero c) ∗ (weights m c ∗ scratch c)
          ∗ buf c cc0_stg0_0 (xstg m c) ∗ buf c cc0_stg1_0 (istg m c) ∗ buf c cc0_stg2_0 (outAt m c)) -∗ Q ⟨⟩)
        -∗ bwp c (cc0_body xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7) Q := by
  unfold payToks places credits wZero weights scratch cellZero
  iintro ⟨⟨#HR, #Hlev⟩, ⟨Ho, ⟨Htb, Htr, Hts⟩, ⟨Hab, Has, Har⟩, ⟨Hcb, Hcr⟩, Hw0, Hw1⟩, ⟨Hw, Hg, Hy, Hp, ⟨%fr, Hr⟩, ⟨%fv, Hv⟩⟩, Hx, Hi, Hout⟩ Hk
  simp only [cc0_body_eq_skeleton]
  unfold cc0_body_skel
  ihave Hr2 := (Entails.of_eq ((slots_split c fr).trans (own_peers c fun q => slotPts c q fr))) $$ Hr
  icases Hr2 with ⟨Hrown, Hrpeers⟩
  ihave Hst := (sig_start c fr) $$ [Ho Htb Hrpeers]
  · isplitl [Ho]; · iexact Ho
    isplitl [Htb]; · iexact Htb
    iexact Hrpeers
  iapply (bwp_bind c)
  iapply (part1_run m K c) $$ [Hst]
  · isplitr; · iexact HR
    iexact Hst
  iintro %r %hr Hst
  obtain ⟨d0, v2, v3, a1, b1, e1⟩ := r
  obtain ⟨h1, h2, h3⟩ := hr
  dsimp only at h1 h2 h3
  have h1' := h1.symm
  subst h1' h2 h3
  iapply (bwp_bind c)
  iapply (part2_run m K c _ _ _) $$ [Hst]
  · isplitr; · iexact HR
    iexact Hst
  iintro %r Hst
  obtain ⟨a1, b1, e1⟩ := r
  iapply (bwp_bind c)
  iapply (part3_run m K c _ _ _) $$ [Hst Hcb Hab]
  · isplitr; · iexact HR
    isplitr; · iexact Hlev
    isplitl [Hst]; · iexact Hst
    isplitl [Hcb]; · iexact Hcb
    iexact Hab
  iintro ⟨Ho, Hbz, Hbp⟩
  ihave Hh := (Entails.of_eq (halfs_split c fv)) $$ Hv
  icases Hh with ⟨Hh0, Hh1⟩
  ihave Hw' := (Entails.of_eq (wgts_split m c)) $$ Hw
  iapply (bwp_bind c)
  iapply (part4_run m c) $$ [Ho Hh0 Hw0 Hh1 Hw1 Hw' Hy Hi]
  · unfold freeHalf
    isplitr [Hi]
    · isplitl [Ho]; · iexact Ho
      isplitl [Hh0 Hw0]
      · isplitl [Hh0]; · iexists _; iexact Hh0
        iexact Hw0
      isplitl [Hh1 Hw1]
      · isplitl [Hh1]; · iexists _; iexact Hh1
        iexact Hw1
      isplitl [Hw']; · iexact Hw'
      iexact Hy
    iexact Hi
  iintro Hst Hi
  iapply (bwp_bind c)
  iapply (part5_run m c) $$ [Hg]
  · iexact Hg
  iintro Hg
  iapply (bwp_bind c)
  iapply (part6_run m c) $$ [Hst Hg Hx]
  · isplitr; · iexact Hlev
    isplitl [Hst]; · iexact Hst
    isplitl [Hg]; · iexact Hg
    iexact Hx
  iintro Hst Hg Hx
  iapply (bwp_bind c)
  iapply (part7_run m c) $$ [Hst]
  · isplitr; · iexact Hlev
    iexact Hst
  iintro Hst
  iapply (bwp_bind c)
  iapply (part8_run m c) $$ [Hst]
  · isplitr; · iexact Hlev
    iexact Hst
  iintro Hst
  iapply (bwp_bind c)
  iapply (part9_run m c) $$ [Hst]
  · isplitr; · iexact Hlev
    iexact Hst
  iintro Hst
  iapply (bwp_bind c)
  iapply (part10_run m c) $$ [Hst]
  · isplitr; · iexact Hlev
    iexact Hst
  iintro Hst
  iapply (bwp_bind c)
  iapply (part11_run m c) $$ [Hst Hg Hp]
  · isplitr; · iexact Hlev
    isplitl [Hst]; · iexact Hst
    isplitl [Hg]; · iexact Hg
    iexact Hp
  iintro %r Hst Hg Hp
  obtain ⟨a1, b1, e1⟩ := r
  unfold stF
  icases Hst with ⟨Ho, Hf0, Hf1, Hw', Hy⟩
  ihave Hp2 := (Entails.of_eq ((blks_split c (P m c)).trans (own_peers c fun d => blkPts c d (P m c)))) $$ Hp
  icases Hp2 with ⟨Hpown, Hppeers⟩
  ihave Hst := (send_start m c) $$ [Ho Hppeers Hbp Hts Htr]
  · isplitl [Ho]; · iexact Ho
    isplitl [Hppeers]; · iexact Hppeers
    isplitl [Hbp]; · iexact Hbp
    isplitl [Hts]; · iexact Hts
    iexact Htr
  iapply (bwp_bind c)
  iapply (part12_run m K c _ _ _) $$ [Hst]
  · isplitr; · iexact HR
    iexact Hst
  iintro %r Hst
  obtain ⟨a1, b1, e1⟩ := r
  iapply (bwp_bind c)
  iapply (part13_run m K c _ _ _) $$ [Hst]
  · isplitr; · iexact HR
    iexact Hst
  iintro Hst
  iapply (bwp_bind c)
  iapply (part14_run m K c) $$ [Hst]
  · isplitr; · iexact HR
    iexact Hst
  iintro %r Hst
  obtain ⟨a1, b1, e1⟩ := r
  iapply (bwp_bind c)
  iapply (part15_run m K c _ _ _) $$ [Hst]
  · isplitr; · iexact HR
    iexact Hst
  iintro Hst
  ihave Hst2 := (send_stop m c) $$ Hst
  icases Hst2 with ⟨Ho, Hsc⟩
  ihave Har2 := (Entails.of_eq (own_peers c fun q => atPos ER (recvCell c q) 0 ∅ 0)) $$ Har
  icases Har2 with ⟨Harown, Harpeers⟩
  ihave Hst := (recv_start m c) $$ [Ho Hcr Harpeers]
  · isplitl [Ho]; · iexact Ho
    isplitl [Hcr]; · iexact Hcr
    iexact Harpeers
  iapply (bwp_bind c)
  iapply (part16_run m K c) $$ [Hst Hpown Hrown]
  · isplitr; · iexact HR
    isplitl [Hst]; · iexact Hst
    isplitl [Hpown]; · iexact Hpown
    iexists _; iexact Hrown
  iintro %r Hst Hpown Hrown
  iapply (bwp_bind c)
  iapply (part17_run m K c _) $$ [Hst]
  · isplitr; · iexact HR
    iexact Hst
  iintro %r Hst
  obtain ⟨a1, b1, e1, e2⟩ := r
  iapply (bwp_bind c)
  iapply (part18_run m K c _ _ _ _) $$ [Hst]
  · isplitr; · iexact HR
    iexact Hst
  iintro %r Hst
  obtain ⟨a1, b1, e1, e2⟩ := r
  iapply (bwp_bind c)
  iapply (part19_run m K c _ _ _ _) $$ [Hst]
  · isplitr; · iexact HR
    iexact Hst
  iintro Hst
  ihave Hst2 := (recv_stop m c) $$ Hst
  icases Hst2 with ⟨Ho, Hrz, Hrpeers⟩
  ihave Hr := (Entails.of_eq ((slots_split c (RC m c)).trans (own_peers c fun q => slotPts c q (RC m c))).symm) $$ [Hrown Hrpeers]
  · isplitl [Hrown]; · iexact Hrown
    iexact Hrpeers
  iapply (bwp_bind c)
  iapply (part20_run m c) $$ [Hr Hout]
  · isplitl [Hr]; · iexact Hr
    iexact Hout
  iintro Hr Hout
  ihave Hst := (sent_start m c) $$ [Ho Hsc Has]
  · isplitl [Ho]; · iexact Ho
    isplitl [Hsc]; · iexact Hsc
    iexact Has
  iapply (bwp_bind c)
  iapply (part21_run m K c) $$ [Hst]
  · isplitr; · iexact HR
    iexact Hst
  iintro Hst
  simp only [Prog.lift, Prog.bind_op, Prog.bind_ret, Prog.pure_eq_ret]
  iapply (sent_next m K c 0 (by decide) (sendS_eq _ 6 rfl) (blkM_eq _ _ (off3_eq c 6))) $$ [Hst]
  · isplitr; · iexact HR
    iexact Hst
  iintro Hst
  ihave Hst2 := (sent_stop m c) $$ Hst
  icases Hst2 with ⟨Ho, Hsz, Hppeers⟩
  ihave Hp := (Entails.of_eq ((blks_split c (P m c)).trans (own_peers c fun d => blkPts c d (P m c))).symm) $$ [Hpown Hppeers]
  · isplitl [Hpown]; · iexact Hpown
    iexact Hppeers
  ihave Hw := (Entails.of_eq (wgts_split m c).symm) $$ Hw'
  unfold freeHalf
  icases Hf0 with ⟨Hh0, Hw0⟩
  icases Hf1 with ⟨Hh1, Hw1⟩
  ihave Hv := (halfs_join c fv) $$ [Hh0 Hh1]
  · isplitl [Hh0]; · iexact Hh0
    iexact Hh1
  iapply (bwp_fupd c)
  imod (own_close m K c) $$ [Harown] with Hrz0
  · isplitr; · iexact HR
    iexact Harown
  imodintro
  iapply (bwp_ret c)
  iapply Hk
  isplitl [Ho Hbz Hsz Hrz Hrz0 Hw0 Hw1]
  · isplitl [Ho]; · iexact Ho
    isplitl [Hbz Hsz Hrz Hrz0]
    · isplitl [Hbz]; · iexact Hbz
      isplitl [Hsz]; · iexact Hsz
      iapply (Entails.of_eq (own_peers c fun q => semVal (recvCell c q) 0).symm)
      isplitl [Hrz0]; · iexact Hrz0
      iexact Hrz
    isplitl [Hw0]; · iexact Hw0
    iexact Hw1
  isplitl [Hw Hg Hy Hp Hr Hv]
  · isplitl [Hw]; · iexact Hw
    isplitl [Hg]; · iexists _; iexact Hg
    isplitl [Hy]; · iexists _; iexact Hy
    isplitl [Hp]; · iexists _; iexact Hp
    isplitl [Hr]; · iexists _; iexact Hr
    iexact Hv
  isplitl [Hx]; · iexact Hx
  isplitl [Hi]; · iexact Hi
  iexact Hout

end Cert.Moe

end
-- ==== Proof.Oblig.lean ====
/-
# The body as the pipeline takes it

What device `c` starts from and ends with, and the body's obligation there.
-/
module

public import proofs.«01_k».proof.Proof.Body
public import Idealize.ShloMosaic.Lib.Pipeline.Launch
public import Idealize.ShloMosaic.Lib.Pipeline.Kit

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- What is a device's own at launch of the exchange's state: the tokens it pays with, its places, its weight counters. -/
def linear (c : Dev nD) : sProp 𝕄 := iprop(payToks c ∗ places c ∗ wZero c)
/-- What the launch's one step over all devices gives device `c`. -/
def G' (c : Dev nD) : sProp 𝕄 := iprop(∃ K, records m K ∗ linear c)
/-- What the region hands in. -/
def start (c : Dev nD) : sProp 𝕄 := iprop(G' m c ∗ credits c ∗ levAts L lv ∗ weights m c)
/-- Before the body, -/
def Φ₀ (c : Dev nD) : sProp 𝕄 := iprop(start m c ∗ scratch c)
/-- and after it. -/
def Φ₁ (c : Dev nD) : sProp 𝕄 := iprop((cellZero c ∗ wZero c) ∗ weights m c ∗ scratch c)

/-- The pipeline's data on device `c`: the arguments staged, the result the sum of the contributions. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => istg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer held whole at `X`. -/
abbrev stg (c : Dev nD) (b : Ref sig .tc) (X : b.ty.Contents (Elt F)) : sProp 𝕄 := iprop(∃ f : b.ty.Contents (Elt F), ⌜f = X⌝ ∗ buf c b f)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the body starts from, as the pipeline states it, -/
def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- and what it ends with. -/
def bodyPost (c : Dev nD) : sProp 𝕄 :=
  iprop(Φ₁ m c ∗ (dats m ρ 0 c).owesAt () t0_0.succ
    ∗ stg c cc0_stg0_0 ((dats m ρ 0 c).after (0 : Fin 3) t0_0)
    ∗ stg c cc0_stg1_0 ((dats m ρ 0 c).after (1 : Fin 3) t0_0)
    ∗ stg c cc0_stg2_0 ((dats m ρ 0 c).after (2 : Fin 3) t0_0))

theorem before_x (c : Dev nD) (d) : (dats m ρ 0 c).before (0 : Fin 3) t0_0 d = xstg m c := by
  unfold Dat.before; rw [if_pos (fetch0_0 t0_0)]; rfl
theorem before_i (c : Dev nD) (d) : (dats m ρ 0 c).before (1 : Fin 3) t0_0 d = istg m c := by
  unfold Dat.before; rw [if_pos (fetch0_1 t0_0)]; rfl

theorem body_pre_post (c : Dev nD) : bodyPre m ρ c ⊢ bwp c (cc0_body xM (Memref.isWhole_whole _) iM (Memref.isWhole_whole _) wM (Memref.isWhole_whole _) oM (Memref.isWhole_whole _) gM (Memref.isWhole_whole _) yM (Memref.isWhole_whole _) pM (Memref.isWhole_whole _) rM (Memref.isWhole_whole _) vM (Memref.isWhole_whole _) cc0_scratch5 cc0_scratch6 cc0_scratch7) (fun _ => bodyPost m ρ c) := by
  unfold bodyPre Φ₀ start G' linear
  simp only [before_x, before_i]
  iintro ⟨⟨⟨⟨%K, #HR, Htok, Hpl, Hwz⟩, Hcr, #Hlev, Hw⟩, Hscr⟩, Ho, ⟨%d0, %f0, %h0, Hx⟩, ⟨%d1, %f1, %h1, Hi⟩, ⟨%d2, %f2, %h2, Hout⟩⟩
  subst h0 h1
  unfold Dat.owesAt Pipeline.owesWithin
  icases Ho with ⟨%W, -, Ho⟩
  iapply (body_run m K c) $$ [Htok Hpl Hwz Hcr Hw Hscr Ho Hx Hi Hout]
  · isplitr
    · isplitr; · iexact HR
      iexact Hlev
    isplitl [Htok Hpl Hwz Hcr Ho]
    · isplitl [Ho]; · unfold ow; iexists W; iexact Ho
      isplitl [Htok]; · iexact Htok
      isplitl [Hpl]; · iexact Hpl
      isplitl [Hcr]; · iexact Hcr
      iexact Hwz
    isplitl [Hw Hscr]
    · isplitl [Hw]; · iexact Hw
      iexact Hscr
    isplitl [Hx]; · iexact Hx
    isplitl [Hi]; · iexact Hi
    iexists f2; iexact Hout
  iintro ⟨⟨Ho, Hcz, Hwz⟩, Hws, Hx, Hi, Hout⟩
  unfold bodyPost Φ₁ Dat.owesAt Pipeline.owesWithin ow
  icases Ho with ⟨%W', Ho⟩
  isplitl [Hcz Hwz Hws]
  · isplitl [Hcz Hwz]
    · isplitl [Hcz]; · iexact Hcz
      iexact Hwz
    iexact Hws
  isplitl [Ho]
  · iexists W'
    isplitr; · ipureintro; exact fun _ _ => Or.inl trivial
    iexact Ho
  isplitl [Hx]
  · iexists _; isplitr; · (ipureintro; rfl)
    iexact Hx
  isplitl [Hi]
  · iexists _; isplitr; · (ipureintro; rfl)
    iexact Hi
  iexists _; isplitr; · (ipureintro; rfl)
  iexact Hout

set_option maxRecDepth 4000 in
/-- The pipeline's obligation of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_pre_post m ρ c

end Cert.Moe

end
-- ==== Proof.Launch.lean ====
/-
# The launch

The exchange's cells and tokens funded, its invariants allocated over all devices at once, the credits each device is
granted counted, and the program's run: every device ends with its result, its arguments unchanged, every counter zero.
-/
module

public import proofs.«01_k».proof.Proof.Oblig
public import Idealize.ShloMosaic.Lib.Pipeline.CollectiveSegs

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The cells -/

/-- The body's own semaphores: the two of the weight copies, the seven sends, the eight receives. -/
abbrev osem : Fin 17 → SemLoc sig := fun k => .dma ⟨3 + k.val, by have := k.isLt; show 3 + k.val < 20; omega⟩
theorem ownSemFacts : Pipeline.OwnSemFacts cfg0.spec osem := by decide

theorem share_eq (c : Dev nD) (w : Fin cfg0.W) : (dats m ρ 0 c).share w = fullShare := by unfold Dat.share; split <;> rfl

theorem role_csem (k k' : Fin 16) (h : role (csem k) = role (csem k')) : k = k' := by revert k k'; decide
theorem kcell_injective : Function.Injective (kcell : Dev nD × Fin 16 → GSem nD τ sig) := by
  rintro ⟨c, k⟩ ⟨c', k'⟩ h
  have h1 : c = c' := congrArg (fun g : GSem nD τ sig => g.1.1) h
  have h2 : k = k' := role_csem k k' (congrArg (fun g : GSem nD τ sig => role g.2) h)
  rw [h1, h2]
def theCells : Finset (GSem nD τ sig) := Finset.univ.map ⟨kcell, kcell_injective⟩

/-- Each token by who pays: (device, which kind, to which peer). -/
def tokOf (x : Dev nD × (Fin 3 × Fin 7)) : GSem nD τ sig × ℕ × Fin 8 :=
  match x.2.1 with
  | 0 => (barCell (peer x.1 x.2.2), 0, x.1)
  | 1 => (recvCell (peer x.1 x.2.2) x.1, 0, x.1)
  | 2 => (sendCell x.1 x.2.2, 0, 0)

theorem tokOf_injective : Function.Injective tokOf := by
  rintro ⟨c, k, j⟩ ⟨c', k', j'⟩ h
  have hr : role (tokOf (c, k, j)).1.2 = role (tokOf (c', k', j')).1.2 := congrArg (fun t : GSem nD τ sig × ℕ × Fin 8 => role t.1.2) h
  have hd : (tokOf (c, k, j)).1.1.1 = (tokOf (c', k', j')).1.1.1 := congrArg (fun t : GSem nD τ sig × ℕ × Fin 8 => t.1.1.1) h
  have hp : (tokOf (c, k, j)).2.2 = (tokOf (c', k', j')).2.2 := congrArg (fun t : GSem nD τ sig × ℕ × Fin 8 => t.2.2) h
  fin_cases k <;> fin_cases k' <;> dsimp only [tokOf] at hr hd hp <;> simp only [role_bar, role_send, role_recv, reduceCtorEq] at hr
  · subst hp; rw [peer_inj c hd]
  · subst hp; rw [peer_inj c hd]
  · have hd : c = c' := hd
    subst hd; rw [Role.send.inj hr]
def theToks : Finset (GSem nD τ sig × ℕ × Fin 8) := Finset.univ.map ⟨tokOf, tokOf_injective⟩

def u₀ : UU := (initOf (Pipeline.cells cfgs cellOf_inj) (Pipeline.launchToks cfgs cellOf_inj), (initOf theCells theToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The sixteen cells: the barrier's, the seven sends', the eight receives'. -/
theorem cells_split : (Finset.univ : Finset (Fin 16)) = insert 0 (Finset.univ.map ⟨sIx, by decide⟩ ∪ Finset.univ.map ⟨rIx, by decide⟩) := by decide
theorem cells_eq (Φ : Fin 16 → sProp 𝕄) :
    bigSep Finset.univ Φ = iprop(Φ 0 ∗ (bigSep Finset.univ fun j : Fin 7 => Φ (sIx j)) ∗ (bigSep Finset.univ fun q : Fin 8 => Φ (rIx q))) := by
  rw [cells_split, BI.bigSep_insert (by decide), BI.bigSep_union (by decide), BI.bigSep_map, BI.bigSep_map]; rfl
def sO (j : Fin 7) : Fin 17 := ⟨2 + j.val, by have := j.isLt; omega⟩
def rO (q : Fin 8) : Fin 17 := ⟨9 + q.val, by have := q.isLt; omega⟩
theorem own_split : (Finset.univ : Finset (Fin 17)) = insert 0 (insert 1 (Finset.univ.map ⟨sO, by decide⟩ ∪ Finset.univ.map ⟨rO, by decide⟩)) := by decide
theorem own_eq (Φ : Fin 17 → sProp 𝕄) :
    bigSep Finset.univ Φ = iprop(Φ 0 ∗ Φ 1 ∗ (bigSep Finset.univ fun j : Fin 7 => Φ (sO j)) ∗ (bigSep Finset.univ fun q : Fin 8 => Φ (rO q))) := by
  rw [own_split, BI.bigSep_insert (by decide), BI.bigSep_insert (by decide), BI.bigSep_union (by decide), BI.bigSep_map, BI.bigSep_map]; rfl

theorem osem_w0 : osem 0 = .dma (wS 0) := by decide
theorem osem_w1 : osem 1 = .dma (wS 1) := by decide
theorem osem_send (j : Fin 7) : osem (sO j) = .dma (sendS j) := by revert j; decide
theorem osem_recv (q : Fin 8) : osem (rO q) = .dma (recvS q) := by revert q; decide

theorem ownSems0_eq (c : Dev nD) : (Pipeline.ownSems0 (Ix := Unit) (Name := ℕ) (U := UU) (Lvl := ℕ) (Val := Elt F) (τ := τ) osem c : sProp 𝕄)
    = iprop(semVal ((c : Thread nD τ), .dma (wS 0)) 0 ∗ semVal ((c : Thread nD τ), .dma (wS 1)) 0
        ∗ (bigSep Finset.univ fun j : Fin 7 => semVal (sendCell c j) 0) ∗ (bigSep Finset.univ fun q : Fin 8 => semVal (recvCell c q) 0)) := by
  unfold Pipeline.ownSems0
  rw [own_eq]
  simp only [osem_w0, osem_w1, osem_send, osem_recv]
theorem unscopedSems0_eq (c : Dev nD) : (unscopedSems0 c : sProp 𝕄) = semVal (barCell c) 0 := by
  unfold unscopedSems0; rw [bigSep_eq_bigSepL_of_eq [SemLoc.reg barS] (by decide) (by decide)]; rfl
theorem semCells_eq (c : Dev nD) : (bigSep Finset.univ fun k : Fin 16 => semVal (kcell (c, k)) 0 : sProp 𝕄) = cellZero c := by
  rw [cells_eq]; unfold cellZero kcell; simp only [csem_bar, csem_send, csem_recv]
theorem atCells_eq (c : Dev nD) : (bigSep Finset.univ fun k : Fin 16 => atPos ER (kcell (c, k)) 0 ∅ 0 : sProp 𝕄) = places c := by
  rw [cells_eq]; unfold places kcell; simp only [csem_bar, csem_send, csem_recv]

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 16 => semVal (kcell (c, k)) 0) ∗ wZero c) : sProp 𝕄) := by
  rw [ownSems0_eq, unscopedSems0_eq, semCells_eq]
  unfold cellZero wZero
  iintro ⟨⟨H0, H1, HS, HV⟩, HB⟩
  isplitl [HB HS HV]
  · isplitl [HB]; · iexact HB
    isplitl [HS] <;> iassumption
  isplitl [H0] <;> iassumption

/-! ## The funding and the invariants -/

/-- What the launch element deals device `c`. -/
def G₀ (c : Dev nD) : sProp 𝕄 :=
  iprop((bigSep Finset.univ fun k : Fin 16 => roundState ER (Rd m) (kcell (c, k)) 0)
    ∗ (bigSep Finset.univ fun k : Fin 16 => iprop(atPos ER (kcell (c, k)) 0 ∅ 0 ∗ reached ER (kcell (c, k)) 0)) ∗ payToks c)

theorem toks_eq (c : Dev nD) : (bigSep Finset.univ fun x : Fin 3 × Fin 7 => dutyTok ER (tokOf (c, x)).1 (tokOf (c, x)).2.1 (tokOf (c, x)).2.2 : sProp 𝕄)
    = payToks c := by
  rw [bigSep_univ_prod, bigSep_univ_eq_bigSepL [0, 1, 2] (by decide) (by decide)]
  unfold payToks; rfl

theorem fund : BI.own (ER (initOf theCells theToks)) ⊢ (|==> bigSep Finset.univ (G₀ m) : sProp 𝕄) := by
  have hX (Φ : GSem nD τ sig → sProp 𝕄) : bigSep theCells Φ = bigSep Finset.univ fun c : Dev nD => bigSep Finset.univ fun k : Fin 16 => Φ (kcell (c, k)) := by
    unfold theCells; rw [BI.bigSep_map, bigSep_univ_prod]; rfl
  have hT : bigSep theToks (fun x => (dutyTok ER x.1 x.2.1 x.2.2 : sProp 𝕄)) = bigSep Finset.univ fun c : Dev nD => payToks c := by
    unfold theToks; rw [BI.bigSep_map, bigSep_univ_prod]
    exact bigSep_congr fun c _ => toks_eq c
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G₀; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G₀ m c)
      ⊢ |={Set.univ}=> iprop((bigSep Finset.univ fun k => iprop(∃ κ : ℕ, cellInv ER (Rd m) κ (kcell (c, k))))
          ∗ (bigSep Finset.univ fun k => reached ER (kcell (c, k)) 0) ∗ linear c) := by
  unfold G₀ linear
  iintro ⟨Hos, Hus, Hst, Hat, Htok⟩
  ihave Hv := (sems0_eq (F := F) c) $$ [Hos Hus]
  · isplitl [Hos] <;> iassumption
  icases Hv with ⟨Hv, Hw⟩
  imod (show iprop((bigSep Finset.univ fun k : Fin 16 => semVal (kcell (c, k)) 0) ∗ bigSep Finset.univ fun k : Fin 16 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  ihave Hat2 := (Entails.of_eq (bigSep_sep' Finset.univ (fun k : Fin 16 => (atPos ER (kcell (c, k)) 0 ∅ 0 : sProp 𝕄)) (fun k => reached ER (kcell (c, k)) 0))) $$ Hat
  icases Hat2 with ⟨Hat, Hr⟩
  ihave Hpl := (Entails.of_eq (atCells_eq (F := F) c)) $$ Hat
  imodintro
  isplitl [Hinv]; · iexact Hinv
  isplitl [Hr]; · iexact Hr
  isplitl [Htok]; · iexact Htok
  isplitl [Hpl]; · iexact Hpl
  iexact Hw

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => reached ER (kcell (c, k)) 0) ∗ linear c) : sProp 𝕄)
      ⊢ bigSep Finset.univ (G' m) := by
  rw [bigSep_sep', bigSep_sep', ← bigSep_univ_prod (fun ck : Dev nD × Fin 16 => iprop(∃ κ : ℕ, cellInv ER (Rd m) κ (kcell ck))),
    ← bigSep_univ_prod (fun ck : Dev nD × Fin 16 => (reached ER (kcell ck) 0 : sProp 𝕄))]
  iintro ⟨HI, #HR, Hlin⟩
  ihave HK := (BI.bigSep_exists_pi Finset.univ (fun (ck : Dev nD × Fin 16) (κ : ℕ) => (cellInv ER (Rd m) κ (kcell ck) : sProp 𝕄))) $$ HI
  icases HK with ⟨%K, #HI⟩
  iapply (with_persistent (R := records m K) (Φ := linear) (Ψ := G' m) fun c _ => by
    unfold G'; iintro ⟨#H1, H2⟩; iexists K; isplitr; · iexact H1
    iexact H2)
  isplitr
  · unfold records; isplitl; · iexact HI
    iexact HR
  · iexact Hlin

/-- The step over all devices: every cell's invariant allocated. -/
theorem glob : (bigSep Finset.univ fun c => iprop(Pipeline.ownSems0 (Ix := Unit) (Name := ℕ) (U := UU) (Lvl := ℕ) (Val := Elt F) (τ := τ) osem c ∗ unscopedSems0 c ∗ G₀ m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b : Dev nD} {q q' : Fin 8} : Iff (recvCell a q = recvCell b q') (a = b ∧ q = q') :=
  ⟨fun h => ⟨congrArg (fun g : GSem nD τ sig => g.1.1) h,
    Role.recv.inj ((role_recv q).symm.trans ((congrArg (fun g : GSem nD τ sig => role g.2) h).trans (role_recv q')))⟩, fun h => by rw [h.1, h.2]⟩
theorem recv_ne_bar {a b : Dev nD} {q : Fin 8} : (recvCell a q = barCell b) = False := eq_false fun h => by
  have h' := congrArg (fun g : GSem nD τ sig => role g.2) h
  simp only [role_recv, role_bar, reduceCtorEq] at h'
theorem bar_ne_recv {a b : Dev nD} {q : Fin 8} : (barCell b = recvCell a q) = False := eq_false fun h => by
  have h' := congrArg (fun g : GSem nD τ sig => role g.2) h
  simp only [role_recv, role_bar, reduceCtorEq] at h'

theorem owed_bar (d c : Dev nD) : O₀ d (barCell c) () = if d = c then 0 else 1 := by
  simp only [O₀, oweB, oweR, Pi.add_apply, Pi.zero_apply, Finsupp.add_apply, Finsupp.zero_apply, tallyAt_apply, bar_eq_iff, recv_ne_bar, bar_ne_recv, false_and, if_false, and_true, Nat.zero_add, Nat.add_zero]
  revert d c; decide

theorem peer_back (c : Dev nD) (j : Fin 7) : ∃ i : Fin 7, ∀ i', (c = peer (peer c j) i') = (i = i') := by
  revert c j; decide
theorem peer_one (n : ℕ) (i : Fin 7) : (if i = lastPeer 0 then n else 0) + (if i = lastPeer 1 then n else 0) + (if i = lastPeer 2 then n else 0)
    + (if i = lastPeer 3 then n else 0) + (if i = lastPeer 4 then n else 0) + (if i = lastPeer 5 then n else 0) + (if i = lastPeer 6 then n else 0) = n := by
  fin_cases i <;> simp [lastPeer, Fin.ext_iff]

theorem owed_recv (d c : Dev nD) (j : Fin 7) : O₀ d (recvCell c (peer c j)) () = if d = peer c j then N else 0 := by
  simp only [O₀, oweB, oweR, Pi.add_apply, Pi.zero_apply, Finsupp.add_apply, Finsupp.zero_apply, tallyAt_apply, recv_eq_iff, recv_ne_bar, bar_ne_recv, false_and, if_false, and_true, Nat.zero_add, Nat.add_zero]
  by_cases h : d = peer c j
  · subst h
    obtain ⟨i, hi⟩ := peer_back c j
    simp only [hi, and_true, if_true]
    exact peer_one N i
  · have h' : ¬ peer c j = d := fun e => h e.symm
    simp only [h, h', and_false, if_false]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c : Dev nD) (j : Fin 7) :
    tallyOn (recvCell c (peer c j)) (launchCredit (Pipeline.owing O₀) 0 (recvCell c (peer c j))) = (tallyAt (recvCell c (peer c j)) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (peer c j) fun _ => N,
    if_pos (Finset.mem_univ _)]

theorem recv_loc_inj (c : Dev nD) : Function.Injective (fun j : Fin 7 => (SemLoc.dma (recvS (peer c j)) : SemLoc sig)) := fun j j' h =>
  peer_inj c (Role.recv.inj ((role_recv (peer c j)).symm.trans ((congrArg role h).trans (role_recv (peer c j')))))

theorem creds (c : Dev nD) : (Pipeline.launchCred O₀ c : sProp 𝕄) ⊢ credits c := by
  unfold Pipeline.launchCred credits
  rw [bigSep_univ_at _ (SemLoc.reg barS), launch_bar]
  refine sep_mono_right ?_
  simp only [← launch_recv]
  refine (BI.bigSep_subset (t := Finset.univ.map ⟨_, recv_loc_inj c⟩) fun x hx => ?_).trans (Entails.of_eq (BI.bigSep_map _))
  obtain ⟨j, -, rfl⟩ := Finset.mem_map.mp hx
  exact Finset.mem_erase.mpr ⟨(fun h => by cases h), Finset.mem_univ _⟩

/-! ## The region's ends -/

theorem rest_eq (c : Dev nD) (V : (b : Ref sig .tc) → Buf (Elt F) ((c : Thread nD τ).loc b)) :
    (Pipeline.unscopedRestP Pipeline.Prefetch.none cfg0.spec c V : sProp 𝕄) = buf c main_arg2 (V main_arg2) := by
  unfold Pipeline.unscopedRestP
  rw [bigSep_eq_bigSepL_of_eq [(main_arg2 : Ref sig .tc)] (by decide) (by decide)]; rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [rest_eq]
  iintro ⟨Hw, Hlev, Hcr, -, HG⟩
  ihave Hc := (creds (F := F) c) $$ Hcr
  imodintro
  unfold start weights
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((unscopedSems0 c ∗ weights m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ cellZero wZero scratch
  iintro ⟨⟨⟨HB, HS, HV⟩, H0, H1⟩, Hw, Hr⟩
  isplitl [HB Hw]
  · isplitl [HB] <;> iassumption
  isplitl [HS HV H0 H1]
  · isplitl [H0]; · iexact H0
    isplitl [H1]; · iexact H1
    isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide) 7
    · show _ ⊢ MayWait _ _ _ 0
      rw [MayWait_zero]; iintro -; iempintro

/-- The weights read back at the end. -/
theorem weights_read (c : Dev nD) (s' : Phys nD τ sig (Elt F)) :
    iprop(weights m c ∗ SI s') ⊢ iprop(⌜s'.mem.mem ((c : Thread nD τ).loc main_arg2) = m ((c : Thread nD τ).loc main_arg2)⌝ ∗ SI s') := by
  unfold weights
  iintro ⟨Hw, HSI⟩
  icombine HSI Hw gives %h
  isplitr; · ipureintro; exact Buf.eq_of_forall_mem_univ h
  iexact HSI

/-! ## The run -/

/-- A window's array at the end. -/
def finalA (c : Dev nD) (w : Fin cfg0.W) : Buf (Elt F) ((cfg0.win w).arr.view.loc (c : Thread nD τ)) := (dats m ρ 0 c).arrAt w cfg0.N

/-- How every run ends. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)

set_option maxRecDepth 8000 in
/-- From any memory with zero counters, every weakly fair execution on the eight devices ends, with each window's array at its final
    contents, the weights unchanged and every semaphore counter at zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G₀ m) (G' := G' m) (u₀ := u₀)
    (hu₀ := by
      unfold u₀
      iintro Hu
      ihave H := (ownU_split _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ weights m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2))
    (hY := fun c s' => by
      iintro ⟨⟨Hu, Hw⟩, -, HSI⟩
      ihave H := (weights_read m c s') $$ [Hw HSI]
      · isplitl [Hw] <;> iassumption
      icases H with ⟨%hw, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hw⟩
      iexact HSI)
    (hQ := fun _ h hs => ⟨fun c => ⟨(h c).1, (h c).2.2.2⟩, sem_eq_zero hs fun c => (h c).2.2.1⟩)

end Cert.Moe

end
-- ==== Proof.Run.lean ====
/-
# How every run ends

The final contents of each array, read off the pipeline's record: the three arguments as they were, the result the
contents the body leaves in the output block.
-/
module

public import proofs.«01_k».proof.Proof.Launch

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The result array ends with what the body leaves in the output block. -/
theorem finalA_out (c : Dev nD) : finalA m ρ c (2 : Fin 3) = outAt m c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  have hz : (fun a => (win0_2.index (0 : Fin 1)) a * main_v1.ty.shape.size a) = fun _ => 0 := funext fun a => by fin_cases a <;> decide
  exact Memref.write_access_unit_zero_univ (Elt F) main_v1 hz (fun a => by fin_cases a <;> decide) _ _
/-- The tokens are staged whole. -/
theorem xstg_eq (c : Dev nD) : xstg m c = m ((c : Thread nD τ).loc main_arg0) :=
  Memref.read_access_unit_zero (Elt F) main_arg0 (funext fun a => by fin_cases a <;> decide) (fun a => by fin_cases a <;> decide) _
/-- The tokens' experts are staged whole. -/
theorem istg_eq (c : Dev nD) : istg m c = m ((c : Thread nD τ).loc main_arg1) :=
  Memref.read_access_unit_zero (Elt F) main_arg1 (funext fun a => by fin_cases a <;> decide) (fun a => by fin_cases a <;> decide) _
/-- Every run leaves the three arguments as they were, with every semaphore counter at zero and the result array holding
    `outAt`. -/
theorem run_main : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun r h => ⟨fun c => ⟨((h.1 c).1 2).trans (finalA_out m ρ c),
    ((h.1 c).1 0).trans ((dats m ρ 0 c).arrAt_in (0 : Fin 3) rfl _), ((h.1 c).1 1).trans ((dats m ρ 0 c).arrAt_in (1 : Fin 3) rfl _), (h.1 c).2⟩, h.2⟩)
    (run_arrays m ρ)
/-- The same without the result: the statement of the frames. -/
theorem run_args : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun _ h => ⟨fun c => (h.1 c).2, h.2⟩) (run_main m ρ)

end Cert.Moe

end
-- ==== Proof.Count.lean ====
/-
# Counting the tokens of an expert

How many of the tokens up to a given one are routed to an expert, counted over a window that doubles at every step; and
that the kernel's shifted additions compute these counts.
-/
module

public import proofs.«01_k».proof.Proof.Contents
public import Idealize.ShloMosaic.PureOps.Ideal.Laws

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
omit [FloatOps F]

/-- Token `i` is routed to expert `e`. -/
def hit (r : Fin 2048 → BitVec 32) (e i : ℕ) : Prop := ∃ h : i < 2048, r ⟨i, h⟩ = BitVec.ofNat 32 e
open Classical in
/-- How many of the `n` tokens that end with token `t` are routed to expert `e`. -/
def cnt (r : Fin 2048 → BitVec 32) (n e t : ℕ) : ℕ := ∑ i ∈ Finset.range (t + 1), if t < i + n ∧ hit r e i then 1 else 0
open Classical in
/-- How many of the tokens up to token `t` are routed to expert `e`. -/
def total (r : Fin 2048 → BitVec 32) (e t : ℕ) : ℕ := ∑ i ∈ Finset.range (t + 1), if hit r e i then 1 else 0

open Classical in
theorem cnt_one (r : Fin 2048 → BitVec 32) (e t : ℕ) : cnt r 1 e t = if hit r e t then 1 else 0 := by
  unfold cnt
  rw [Finset.sum_range_succ, Finset.sum_eq_zero fun i hi => if_neg fun h => by have := Finset.mem_range.mp hi; omega, Nat.zero_add]
  exact if_congr ⟨fun h => h.2, fun h => ⟨by omega, h⟩⟩ rfl rfl
/-- A window twice as long: the window, and the one that ends where it begins. -/
theorem cnt_double (r : Fin 2048 → BitVec 32) (n e t : ℕ) : cnt r (n + n) e t = cnt r n e t + if n ≤ t then cnt r n e (t - n) else 0 := by
  classical
  have h1 : cnt r (n + n) e t = cnt r n e t + ∑ i ∈ Finset.range (t + 1), if (i + n ≤ t ∧ t < i + n + n) ∧ hit r e i then 1 else 0 := by
    unfold cnt
    rw [← Finset.sum_add_distrib]
    refine Finset.sum_congr rfl fun i hi => ?_
    by_cases hh : hit r e i
    · simp only [hh, and_true]
      split_ifs <;> omega
    · simp [hh]
  rw [h1]
  refine congrArg (cnt r n e t + ·) ?_
  split
  · next hn =>
    unfold cnt
    symm
    refine (Finset.sum_subset_zero_on_sdiff (fun i hi => ?_) (fun i hi => ?_) fun i hi => ?_)
    · have := Finset.mem_range.mp hi; exact Finset.mem_range.mpr (by omega)
    · have h2 := Finset.mem_sdiff.mp hi
      have h3 := Finset.mem_range.mp h2.1
      have h4 : ¬ i < t - n + 1 := fun h => h2.2 (Finset.mem_range.mpr h)
      exact if_neg fun h => by omega
    · have h3 := Finset.mem_range.mp hi
      exact if_congr ⟨fun h => ⟨⟨by omega, by omega⟩, h.2⟩, fun h => ⟨by omega, h.2⟩⟩ rfl rfl
  · next hn => exact Finset.sum_eq_zero fun i hi => if_neg fun h => by omega
theorem cnt_all (r : Fin 2048 → BitVec 32) (e t : ℕ) (ht : t < 2048) : cnt r 2048 e t = total r e t := by
  classical
  unfold cnt total
  exact Finset.sum_congr rfl fun i hi => if_congr ⟨fun h => h.2, fun h => ⟨by omega, h⟩⟩ rfl rfl

theorem total_le (r : Fin 2048 → BitVec 32) (e t : ℕ) : total r e t ≤ t + 1 := by
  classical
  unfold total
  refine (Finset.sum_le_sum fun i _ => (show (if hit r e i then 1 else 0) ≤ 1 by split <;> omega)).trans ?_
  simp
/-- A token routed to the expert counts itself. -/
theorem total_pos (r : Fin 2048 → BitVec 32) (e t : ℕ) (h : hit r e t) : 1 ≤ total r e t := by
  unfold total
  rw [Finset.sum_range_succ, if_pos h]; omega
theorem total_lt (r : Fin 2048 → BitVec 32) (e t t' : ℕ) (h : hit r e t') (ht : t < t') : total r e t < total r e t' := by
  unfold total
  rw [Finset.sum_range_succ (n := t'), if_pos h]
  exact Nat.lt_succ_of_le (Finset.sum_le_sum_of_subset fun i hi => by have := Finset.mem_range.mp hi; exact Finset.mem_range.mpr (by omega))
/-- Two tokens of one expert with the same count are one token. -/
theorem total_inj (r : Fin 2048 → BitVec 32) (e t t' : ℕ) (h : hit r e t) (h' : hit r e t') (ht : total r e t = total r e t') : t = t' := by
  rcases Nat.lt_trichotomy t t' with hl | hl | hl
  · have := total_lt r e t t' h' hl; omega
  · exact hl
  · have := total_lt r e t' t h hl; omega

/-! ## The kernel's shifted additions -/

/-- A block of `a` rows of zeros above the first rows of `v`, at an index: the row `a` above, or zero. -/
theorem shifted (a b : ℕ) (hab : a + b = 2048) (v : S2048x64.Idx → EReal) (z : EReal)
    (hs : S2048x64.Slices ![0, 0] ⟨2, ![b, 64]⟩) (hc : Shape.Concatenates [⟨2, ![a, 64]⟩, ⟨2, ![b, 64]⟩] S2048x64 0) (t : Fin 2048) (e : Fin 64) :
    concatenate S2048x64 0 [⟨⟨2, ![a, 64]⟩, broadcast ⟨2, ![a, 64]⟩ z⟩, ⟨⟨2, ![b, 64]⟩, extractStridedSlice ⟨2, ![b, 64]⟩ ![0, 0] v hs⟩] hc (ix2 t e)
      = if a ≤ t.val then v (ix2 ⟨t.val - a, by have := t.isLt; omega⟩ e) else z := by
  have ht := t.isLt
  split
  · next h =>
    refine (concatenate_pair_apply_right (t := S2048x64) 0 _ _ hc (ix2 t e) rfl rfl (ix2 ⟨t.val - a, by omega⟩ e) (fun x hx => ?_) ?_).trans ?_
    · fin_cases x
      · exact absurd rfl hx
      · rfl
    · show t.val - a + a = t.val; omega
    · unfold extractStridedSlice
      refine congrArg v (funext fun x => Fin.ext ?_)
      fin_cases x
      · show 0 + (t.val - a) = t.val - a; omega
      · show 0 + e.val = e.val; omega
  · next h =>
    refine (concatenate_pair_apply_left (t := S2048x64) 0 _ _ hc (ix2 t e) rfl (ix2 ⟨t.val, by omega⟩ e) (fun x => ?_)).trans rfl
    fin_cases x <;> rfl

/-- The vector holds, for every token and expert, the count over the `n` tokens that end there. -/
def Counts (r : Fin 2048 → BitVec 32) (n : ℕ) (v : FVec Ideal S2048x64 .f32) : Prop :=
  ∀ (t : Fin 2048) (e : Fin 64), v (ix2 t e) = ((cnt r n e.val t.val : ℝ) : EReal)

theorem counts_step (r : Fin 2048 → BitVec 32) (a b : ℕ) (hab : a + b = 2048) (v : FVec Ideal S2048x64 .f32) (hv : Counts r a v)
    (hs : S2048x64.Slices ![0, 0] ⟨2, ![b, 64]⟩) (hc : Shape.Concatenates [⟨2, ![a, 64]⟩, ⟨2, ![b, 64]⟩] S2048x64 0) :
    Counts r (a + a) (addf v (concatenate S2048x64 0 [⟨⟨2, ![a, 64]⟩, broadcast ⟨2, ![a, 64]⟩ (Scalar.ofBits (F := Ideal) .f32 0x00000000#32)⟩,
      ⟨⟨2, ![b, 64]⟩, extractStridedSlice ⟨2, ![b, 64]⟩ ![0, 0] v hs⟩] hc)) := by
  intro t e
  refine (congrArg (v (ix2 t e) + ·) (shifted a b hab v _ hs hc t e)).trans ?_
  rw [cnt_double, hv t e]
  split
  · rw [hv, Nat.cast_add, EReal.coe_add]
  · rw [show (Scalar.ofBits (F := Ideal) .f32 0x00000000#32 : EReal) = 0 from Ideal.ofBits_zero_f32, add_zero, Nat.add_zero]

end Cert.Moe

end
-- ==== Proof.Rank.lean ====
/-
# The slot of a token

The kernel gives a token the slot of its expert and of its place among the expert's tokens, when the expert is one of the
device's and the place is below 25; the table of ones that it multiplies by is one at that slot.
-/
module

public import proofs.«01_k».proof.Proof.Count
public import Idealize.ShloMosaic.Lib.ValueLayoutCasts
public import Idealize.ShloMosaic.Lib.Pointwise.Reduce

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
omit [FloatOps F]

/-- The expert of every token, from the column of experts. -/
def routes (v : S2048x1.Idx → BitVec 32) : Fin 2048 → BitVec 32 := fun t => v (ix2 t 0)

/-! ## Facts about words -/

theorem sitofp_bit (p : Prop) [Decidable p] :
    (FloatOps.sitofp .f32 ((BitVec.ofBool (decide p)).setWidth 32) : Ideal .f32) = if p then (1 : EReal) else 0 := by
  by_cases h : p
  · simp only [h, decide_true, if_true]
    show (((BitVec.setWidth 32 (BitVec.ofBool true)).toInt : ℝ) : EReal) = 1
    rw [show (BitVec.setWidth 32 (BitVec.ofBool true)).toInt = 1 by decide]; norm_num
  · simp only [h, decide_false, if_false]
    show (((BitVec.setWidth 32 (BitVec.ofBool false)).toInt : ℝ) : EReal) = 0
    rw [show (BitVec.setWidth 32 (BitVec.ofBool false)).toInt = 0 by decide]; norm_num

/-- A count, turned into a word. -/
theorem fptosi_nat (n : ℕ) (hn : n ≤ 2048) : FloatOps.fptosi (F := Ideal) (φ := .f32) 32 ((n : ℝ) : EReal) = BitVec.ofNat 32 n := by
  show BitVec.ofInt 32 (Ideal.toIntClamped (-(2 ^ (32 - 1) : Nat)) ((2 ^ (32 - 1) : Nat) - 1) ((n : ℝ) : EReal)) = _
  rw [Ideal.toIntClamped_coe, if_pos (Nat.cast_nonneg n), Int.floor_natCast, min_eq_right (by push_cast; omega), max_eq_right (by push_cast; omega)]
  exact BitVec.ofInt_natCast 32 n

/-- The word of a device. -/
theorem dword_eq (c : Dev nD) : dword c = BitVec.ofNat 32 c.val := by revert c; decide

theorem in_range (y : BitVec 32) : (IntOp.cmpi .sge y 0#32 &&& IntOp.cmpi .slt y 8#32) = BitVec.ofBool (decide (y.toNat < 8)) := by
  show (BitVec.ofBool ((0#32).sle y) &&& BitVec.ofBool (y.slt 8#32)) = _
  rw [BitVec.sle, BitVec.slt, show (0#32).toInt = 0 by decide, show (8#32).toInt = 8 by decide, BitVec.toInt_eq_toNat_cond]
  have hy := y.isLt
  by_cases h : y.toNat < 8
  · have h1 : 2 * y.toNat < 2 ^ 32 := by omega
    have h2 : (0 : ℤ) ≤ (y.toNat : ℤ) := by omega
    have h3 : (y.toNat : ℤ) < 8 := by omega
    simp only [h, h1, h2, h3, if_true, decide_true]; rfl
  · by_cases h1 : 2 * y.toNat < 2 ^ 32
    · have h3 : ¬ (y.toNat : ℤ) < 8 := by omega
      simp only [h, h1, h3, if_true, decide_false]
      cases decide ((0 : ℤ) ≤ (y.toNat : ℤ)) <;> rfl
    · have h2 : ¬ (0 : ℤ) ≤ (y.toNat : ℤ) - ((2 ^ 32 : ℕ) : ℤ) := by omega
      simp only [h, h1, if_false, decide_false, h2]
      cases decide ((y.toNat : ℤ) - ((2 ^ 32 : ℕ) : ℤ) < 8) <;> rfl

theorem below_25 (n : ℕ) (h1 : 1 ≤ n) (hn : n ≤ 2048) : IntOp.cmpi .slt (BitVec.ofNat 32 n - 1#32) 25#32 = BitVec.ofBool (decide (n ≤ 25)) := by
  rw [show BitVec.ofNat 32 n - 1#32 = BitVec.ofNat 32 (n - 1) from by
    apply BitVec.eq_of_toNat_eq; rw [BitVec.toNat_sub]; simp only [BitVec.toNat_ofNat]; omega]
  show BitVec.ofBool ((BitVec.ofNat 32 (n - 1)).slt 25#32) = _
  rw [BitVec.slt, show (25#32).toInt = 25 by decide, BitVec.toInt_eq_toNat_cond, BitVec.toNat_ofNat, Nat.mod_eq_of_lt (by omega), if_pos (by omega)]
  exact congrArg BitVec.ofBool (decide_eq_decide.mpr (by omega))

/-- The slot of a token: `y` is its expert's number on the device, `w` the count of the expert's tokens up to it. -/
def slotWord (y w : BitVec 32) : BitVec 32 :=
  Scalar.select ((IntOp.cmpi .sge y 0#32 &&& IntOp.cmpi .slt y 8#32) &&& IntOp.cmpi .slt (w - 1#32) 25#32) (y * 32#32 + (w - 1#32)) 4294967295#32

theorem slotWord_in (y w : BitVec 32) (n : ℕ) (hy : y.toNat < 8) (hw : w = BitVec.ofNat 32 n) (h1 : 1 ≤ n) (hn : n ≤ 25) :
    slotWord y w = BitVec.ofNat 32 (32 * y.toNat + (n - 1)) := by
  unfold slotWord
  rw [in_range, hw, below_25 n h1 (by omega), decide_eq_true hy, decide_eq_true hn]
  refine (select_one _ _).trans ?_
  apply BitVec.eq_of_toNat_eq
  rw [BitVec.toNat_add, BitVec.toNat_mul, BitVec.toNat_sub]
  simp only [BitVec.toNat_ofNat]
  omega
theorem slotWord_far (y w : BitVec 32) (hy : ¬ y.toNat < 8) : slotWord y w = 4294967295#32 := by
  unfold slotWord
  rw [in_range, decide_eq_false hy]
  rcases BitVec.eq_zero_or_eq_one (IntOp.cmpi .slt (w - 1#32) 25#32) with h | h <;> rw [h] <;> rfl
theorem slotWord_late (y w : BitVec 32) (n : ℕ) (hw : w = BitVec.ofNat 32 n) (h1 : 1 ≤ n) (hn : n ≤ 2048) (h : ¬ n ≤ 25) :
    slotWord y w = 4294967295#32 := by
  unfold slotWord
  rw [in_range, hw, below_25 n h1 hn, decide_eq_false h]
  cases decide (y.toNat < 8) <;> rfl

/-! ## The table in two parts: the counts, and what is made of them -/

/-- The count of every token's own expert. -/
def picked (v107 v151 : FVec Ideal S2048x64 .f32) : FVec Ideal S2048 .f32 :=
  multiReduction .add [1] S2048 (select (cmpf .ogt v107 (broadcast S2048x64 (Scalar.ofBits .f32 0x3F000000#32))) v151
    (broadcast S2048x64 (Scalar.ofBits .f32 0x00000000#32))) 0x00000000#32 reduces_S2048x64_S2048 (.inl rfl) rfl
/-- The slot of every token. -/
def slots (v2 : BitVec 32) (v102 v158 : IVec S2048x1 32) : IVec S2048x1 32 := fun i => slotWord (v102 i - v2 * 8#32) (v158 i)
/-- The table of ones, from the counts. -/
def gate (v2 : BitVec 32) (v102 : IVec S2048x1 32) (v107 v151 : FVec Ideal S2048x64 .f32) : FVec Ideal S2048x256 .f32 :=
  sitofp .f32 (extui 32 (cmpi .eq (broadcastTo S2048x256 (slots v2 v102 (fptosi 32 (shapeCast S2048x1 (picked v107 v151) shapeCasts_S2048_S2048x1)))
    broadcasts_S2048x1_S2048x256) (iota .tc S2048x256 32 [1] iota_S2048x256_d1_w32)) natLt_1_32)

theorem column_apply {n : ℕ} (x : S2048x1.Idx → BitVec 32) (h : S2048x1.Broadcasts ⟨2, ![2048, n]⟩) (t : Fin 2048) (e : Fin n) :
    broadcastTo ⟨2, ![2048, n]⟩ x h (ix2 t e) = x (ix2 t 0) := by
  unfold broadcastTo
  refine congrArg x (funext fun a => ?_)
  fin_cases a <;> rfl

theorem pay1_eq (v : S2048x1.Idx → BitVec 32) : k0_pay1 (F := Ideal) v = v := shapeCast_self v _
/-- The first table: one where the token is routed to the expert. -/
theorem pay2_apply (v : S2048x1.Idx → BitVec 32) (t : Fin 2048) (e : Fin 64) :
    k0_pay2 (F := Ideal) v (ix2 t e) = if routes v t = BitVec.ofNat 32 e.val then (1 : EReal) else 0 := by
  unfold k0_pay2
  rw [pay1_eq]
  refine Eq.trans ?_ (sitofp_bit _)
  show FloatOps.sitofp .f32 (BitVec.setWidth 32 (BitVec.ofBool (_ == _))) = _
  rw [column_apply]
  show FloatOps.sitofp .f32 (BitVec.setWidth 32 (BitVec.ofBool (routes v t == BitVec.ofNat 32 (0 * 64 + e.val)))) = _
  rw [Nat.zero_mul, Nat.zero_add]
  rfl
theorem hit_iff (r : Fin 2048 → BitVec 32) (t : Fin 2048) (e : ℕ) : hit r e t.val ↔ r t = BitVec.ofNat 32 e :=
  ⟨fun ⟨_, h⟩ => h, fun h => ⟨t.isLt, h⟩⟩
theorem counts_pay2 (v : S2048x1.Idx → BitVec 32) : Counts (routes v) 1 (k0_pay2 (F := Ideal) v) := by
  intro t e
  rw [pay2_apply, cnt_one]
  by_cases h : routes v t = BitVec.ofNat 32 e.val
  · rw [if_pos h, if_pos ((hit_iff _ t _).mpr h)]; norm_num
  · rw [if_neg h, if_neg fun h' => h ((hit_iff _ t _).mp h')]; norm_num
theorem counts_pay3 (v : S2048x1.Idx → BitVec 32) : Counts (routes v) 128 (k0_pay3 (F := Ideal) v) :=
  counts_step _ 64 1984 rfl _ (counts_step _ 32 2016 rfl _ (counts_step _ 16 2032 rfl _ (counts_step _ 8 2040 rfl _ (counts_step _ 4 2044 rfl _
    (counts_step _ 2 2046 rfl _ (counts_step _ 1 2047 rfl _ (counts_pay2 v) _ _) _ _) _ _) _ _) _ _) _ _) _ _
/-- The table of ones is made of the full counts. -/
theorem pay5_eq (v2 : BitVec 32) (v : S2048x1.Idx → BitVec 32) : ∃ w, Counts (routes v) 2048 w ∧
    k0_pay5 v2 (k0_pay1 (F := Ideal) v) (k0_pay2 (F := Ideal) v) (k0_pay3 (F := Ideal) v) (k0_pay4 (F := Ideal) v) = gate v2 v (k0_pay2 (F := Ideal) v) w := by
  rw [pay1_eq]
  exact ⟨_, counts_step _ 1024 1024 rfl _ (counts_step _ 512 1536 rfl _ (counts_step _ 256 1792 rfl _ (counts_step _ 128 1920 rfl _
    (counts_pay3 v) slices_S2048x64_o0_0_S1920x64 concatenates_S128x64_S1920x64_S2048x64_d0)
    slices_S2048x64_o0_0_S1792x64 concatenates_S256x64_S1792x64_S2048x64_d0)
    slices_S2048x64_o0_0_S1536x64 concatenates_S512x64_S1536x64_S2048x64_d0)
    slices_S2048x64_o0_0_S1024x64 concatenates_S1024x64_S1024x64_S2048x64_d0, rfl⟩

/-- The constant that the first table is compared with. -/
theorem half_eq : Ideal.ofBits .f32 0x3F000000#32 = ((1 / 2 : ℝ) : EReal) := by
  simp [Ideal.ofBits, Ideal.ieee, -EReal.coe_mul]
  norm_num
theorem half_lt_one : Ideal.cmp .ogt (1 : EReal) (Scalar.ofBits (F := Ideal) .f32 0x3F000000#32) = 1#1 := by
  show BitVec.ofBool (decide (Ideal.ofBits .f32 0x3F000000#32 < 1)) = 1#1
  rw [half_eq, decide_eq_true (by rw [← EReal.coe_one, EReal.coe_lt_coe_iff]; norm_num)]
  rfl
theorem half_lt_zero : Ideal.cmp .ogt (0 : EReal) (Scalar.ofBits (F := Ideal) .f32 0x3F000000#32) = 0#1 := by
  show BitVec.ofBool (decide (Ideal.ofBits .f32 0x3F000000#32 < 0)) = 0#1
  rw [half_eq, decide_eq_false (by rw [← EReal.coe_zero, EReal.coe_lt_coe_iff]; norm_num)]
  rfl

/-- The count of a token's own expert, when that is an expert. -/
theorem picked_apply (v : S2048x1.Idx → BitVec 32) (w : FVec Ideal S2048x64 .f32) (hw : Counts (routes v) 2048 w) (t : Fin 2048) (e : Fin 64)
    (he : routes v t = BitVec.ofNat 32 e.val) : picked (k0_pay2 (F := Ideal) v) w (ix1 t) = ((total (routes v) e.val t.val : ℝ) : EReal) := by
  have hone : ∀ k : Fin 64, routes v t = BitVec.ofNat 32 k.val → k = e := fun k hk => by
    have h := congrArg BitVec.toNat (hk.symm.trans he)
    simp only [BitVec.toNat_ofNat] at h
    exact Fin.ext (by have := k.isLt; have := e.isLt; omega)
  have hterm : ∀ k : Fin 64, select (cmpf .ogt (k0_pay2 (F := Ideal) v) (broadcast S2048x64 (Scalar.ofBits .f32 0x3F000000#32))) w
      (broadcast S2048x64 (Scalar.ofBits (F := Ideal) .f32 0x00000000#32)) (ix2 t k) = if k = e then ((total (routes v) e.val t.val : ℝ) : EReal) else 0 := fun k => by
    show Scalar.select (Ideal.cmp .ogt (k0_pay2 (F := Ideal) v (ix2 t k)) (Scalar.ofBits (F := Ideal) .f32 0x3F000000#32)) (w (ix2 t k))
      (Scalar.ofBits (F := Ideal) .f32 0x00000000#32) = _
    rw [pay2_apply, hw t k, cnt_all _ _ _ t.isLt]
    by_cases h : routes v t = BitVec.ofNat 32 k.val
    · rw [if_pos h, half_lt_one, select_one, hone k h, if_pos rfl]
    · rw [if_neg h, half_lt_zero, select_zero, if_neg fun hk : k = e => h (by rw [hk]; exact he)]
      exact Ideal.ofBits_zero_f32
  unfold picked
  show Ideal.reduceAdd _ _ (ix1 t) = _
  rw [Ideal.reduceAdd_r2_a1]
  refine (Finset.sum_congr rfl fun k _ => hterm k).trans ?_
  rw [Finset.sum_ite_eq' Finset.univ e, if_pos (Finset.mem_univ _)]

/-- The token's slot is `s`: the token is routed to expert `le` of the device, it is among the first 25 there, and the slot is the
    one of its place. -/
def Placed (r : Fin 2048 → BitVec 32) (c : Fin 8) (t : Fin 2048) (s : ℕ) : Prop :=
  ∃ le : Fin 8, r t = BitVec.ofNat 32 (8 * c.val + le.val) ∧ total r (8 * c.val + le.val) t.val ≤ 25 ∧
    s = 32 * le.val + (total r (8 * c.val + le.val) t.val - 1)

open Classical in
/-- The table of ones: one where the slot is the token's. -/
theorem gate_apply (v : S2048x1.Idx → BitVec 32) (w : FVec Ideal S2048x64 .f32) (hw : Counts (routes v) 2048 w) (c : Fin 8) (t : Fin 2048) (s : Fin 256) :
    gate (BitVec.ofNat 32 c.val) v (k0_pay2 (F := Ideal) v) w (ix2 t s) = if Placed (routes v) c t s.val then (1 : EReal) else 0 := by
  have hc := c.isLt
  have hs := s.isLt
  have hslot : gate (BitVec.ofNat 32 c.val) v (k0_pay2 (F := Ideal) v) w (ix2 t s)
      = if slotWord (routes v t - BitVec.ofNat 32 c.val * 8#32) (FloatOps.fptosi 32 (picked (k0_pay2 (F := Ideal) v) w (ix1 t))) = BitVec.ofNat 32 s.val
        then (1 : EReal) else 0 := by
    unfold gate
    refine Eq.trans ?_ (sitofp_bit _)
    show FloatOps.sitofp .f32 (BitVec.setWidth 32 (BitVec.ofBool (_ == _))) = _
    rw [column_apply]
    show FloatOps.sitofp .f32 (BitVec.setWidth 32 (BitVec.ofBool (slotWord (v (ix2 t 0) - BitVec.ofNat 32 c.val * 8#32)
      (FloatOps.fptosi 32 (shapeCast S2048x1 (picked (k0_pay2 (F := Ideal) v) w) shapeCasts_S2048_S2048x1 (ix2 t 0))) == BitVec.ofNat 32 (0 * 256 + s.val)))) = _
    rw [shapeCast_a_a1_apply, Nat.zero_mul, Nat.zero_add]
    rfl
  rw [hslot]
  have hfar : (4294967295#32 : BitVec 32) ≠ BitVec.ofNat 32 s.val := fun h => by
    have := congrArg BitVec.toNat h; simp only [BitVec.toNat_ofNat] at this; omega
  have hmul : BitVec.ofNat 32 c.val * 8#32 = BitVec.ofNat 32 (8 * c.val) := by
    apply BitVec.eq_of_toNat_eq; rw [BitVec.toNat_mul]; simp only [BitVec.toNat_ofNat]; omega
  rw [hmul]
  have hlocal : ∀ le : ℕ, routes v t = BitVec.ofNat 32 (8 * c.val + le) → le < 8 → (routes v t - BitVec.ofNat 32 (8 * c.val)).toNat = le := fun le h hle => by
    rw [h, BitVec.toNat_sub]; simp only [BitVec.toNat_ofNat]; omega
  by_cases hy : (routes v t - BitVec.ofNat 32 (8 * c.val)).toNat < 8
  · obtain ⟨le, hle⟩ : ∃ le : Fin 8, (routes v t - BitVec.ofNat 32 (8 * c.val)).toNat = le.val := ⟨⟨_, hy⟩, rfl⟩
    have hr : routes v t = BitVec.ofNat 32 (8 * c.val + le.val) := by
      have h1 : routes v t = (routes v t - BitVec.ofNat 32 (8 * c.val)) + BitVec.ofNat 32 (8 * c.val) := (BitVec.sub_add_cancel _ _).symm
      apply BitVec.eq_of_toNat_eq
      rw [h1, BitVec.toNat_add, hle]; simp only [BitVec.toNat_ofNat]; omega
    have hl := le.isLt
    have hn := total_pos (routes v) (8 * c.val + le.val) t.val ((hit_iff _ t _).mpr hr)
    have hn2 := total_le (routes v) (8 * c.val + le.val) t.val
    have ht := t.isLt
    have hle' : ∀ le' : Fin 8, routes v t = BitVec.ofNat 32 (8 * c.val + le'.val) → le' = le := fun le' h' =>
      Fin.ext ((hlocal le'.val h' le'.isLt).symm.trans hle)
    rw [picked_apply v w hw t ⟨8 * c.val + le.val, by omega⟩ hr, fptosi_nat _ (by show total _ (8 * c.val + le.val) _ ≤ _; omega)]
    by_cases h25 : total (routes v) (8 * c.val + le.val) t.val ≤ 25
    · rw [slotWord_in _ _ _ hy rfl hn h25, hle]
      refine if_congr ⟨fun h => ⟨le, hr, h25, ?_⟩, fun ⟨le', h', _, hs'⟩ => ?_⟩ rfl rfl
      · have := congrArg BitVec.toNat h; simp only [BitVec.toNat_ofNat] at this; omega
      · obtain rfl := hle' le' h'
        rw [hs']
    · rw [slotWord_late _ _ _ rfl hn (by omega) h25, if_neg hfar, if_neg]
      rintro ⟨le', h', h25', -⟩
      obtain rfl := hle' le' h'
      exact h25 h25'
  · rw [slotWord_far _ _ hy, if_neg hfar, if_neg]
    rintro ⟨le', h', -, -⟩
    exact hy (by rw [hlocal le'.val h' le'.isLt]; exact le'.isLt)

end Cert.Moe

end
-- ==== Proof.Expert.lean ====
/-
# The contribution of a device

What a device's products come to: for every token that has a slot on the device, the token's row times its expert's weights.
-/
module

public import proofs.«01_k».proof.Proof.Rank
public import Idealize.ShloMosaic.Lib.MatmulPlain
public import Idealize.ShloMosaic.Lib.ValueLayout

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
omit [FloatOps F]

variable (m : (ℓ : Loc nD τ sig) → Buf (Elt Ideal) ℓ)

/-- Entry `d` of token `t`'s row, as device `c` has it. -/
def tok (c : Dev nD) (t : Fin 2048) (d : Fin 1024) : EReal := xstg m c (ix2 t d)
/-- Entry `d`, `j` of the `le`-th weight matrix of device `c`. -/
def wgt (c : Dev nD) (le : Fin 8) (d j : Fin 1024) : EReal := wv m c le (ix3 0 d j)
/-- A gathered row's entry. -/
def gat (c : Dev nD) (s : Fin 256) (d : Fin 1024) : EReal := XG m c (ix2 s d)

/-! ## The three products at an index -/

theorem gather_apply (A : FVec Ideal S2048x256 .f32) (x : FVec Ideal S2048x1024 .f32) (s : Fin 256) (d : Fin 1024) :
    matmul dot_S2048x256_S2048x1024_S256x1024_0_0_1_1_n_n none A x (constant S256x1024 .f32 0x00000000#32) (ix2 s d)
      = ∑ t : Fin 2048, A (ix2 t s) * x (ix2 t d) := by
  show FloatOps.matmul dot_S2048x256_S2048x1024_S256x1024_0_0_1_1_n_n none A x (constant S256x1024 .f32 0x00000000#32) (ix2 s d) = _
  rw [Ideal.matmul_constant_zero_apply,
    ← Equiv.sum_comp (contrEquiv1 dot_S2048x256_S2048x1024_S256x1024_0_0_1_1_n_n 2048 rfl rfl).symm]
  refine Finset.sum_congr rfl fun t _ => ?_
  have ht := contrEquiv1_symm_val dot_S2048x256_S2048x1024_S256x1024_0_0_1_1_n_n 2048 rfl rfl t
  have el : dot_S2048x256_S2048x1024_S256x1024_0_0_1_1_n_n.lhsIdx (ix2 s d)
      ((contrEquiv1 dot_S2048x256_S2048x1024_S256x1024_0_0_1_1_n_n 2048 rfl rfl).symm t) = ix2 t s := by
    funext a; apply Fin.ext
    match a with
    | ⟨0, _⟩ => exact ht
    | ⟨1, _⟩ => rfl
  have er : dot_S2048x256_S2048x1024_S256x1024_0_0_1_1_n_n.rhsIdx (ix2 s d)
      ((contrEquiv1 dot_S2048x256_S2048x1024_S256x1024_0_0_1_1_n_n 2048 rfl rfl).symm t) = ix2 t d := by
    funext a; apply Fin.ext
    match a with
    | ⟨0, _⟩ => exact ht
    | ⟨1, _⟩ => rfl
  rw [el, er]

theorem zero_acc {s : Shape} (i : s.Idx) (x : EReal) : (constant (F := Ideal) s .f32 0x00000000#32) i + x = x := by
  show Ideal.ofBits .f32 0x00000000#32 + x = x
  rw [Ideal.ofBits_zero_f32, zero_add]

/-- 32 rows of the gathered tokens times a weight matrix. -/
theorem rows_apply (o : ℕ) (ho : o + 32 ≤ 256) (X : FVec Ideal S256x1024 .f32) (w : FVec Ideal S1x1024x1024 .f32) (hs : S256x1024.Slices ![o, 0] S32x1024)
    (hw : S1x1024x1024.ShapeCasts S1024x1024) (i : Fin 32) (h : Fin 1024) :
    matmul dot_S32x1024_S1024x1024_S32x1024_1_0_0_1_n_n none (extractStridedSlice S32x1024 ![o, 0] X hs) (shapeCast S1024x1024 w hw)
      (constant S32x1024 .f32 0x00000000#32) (ix2 i h) = ∑ d : Fin 1024, X (ix2 ⟨o + i.val, by have := i.isLt; omega⟩ d) * w (ix3 0 d h) := by
  refine (Ideal.matmul_plain_apply none _ _ _ i h).trans ((zero_acc _ _).trans (Finset.sum_congr rfl fun d _ => ?_))
  rw [shapeCast_1ab_ab_apply]
  refine congrArg (· * w (ix3 0 d h)) (congrArg X (funext fun a => Fin.ext ?_))
  match a with
  | ⟨0, _⟩ => rfl
  | ⟨1, _⟩ => exact Nat.zero_add _

theorem spread_apply (A : FVec Ideal S2048x256 .f32) (y : FVec Ideal S256x1024 .f32) (t : Fin 2048) (h : Fin 1024) :
    k0_pay17 (F := Ideal) A y (ix2 t h) = ∑ s : Fin 256, A (ix2 t s) * y (ix2 s h) := by
  unfold k0_pay17
  simp only [shapeCast_self]
  exact (Ideal.matmul_plain_apply none _ _ _ t h).trans (zero_acc _ _)

/-! ## The table, the gathered tokens and the experts' products -/

open Classical in
/-- The device's table: one where the slot is the token's. -/
theorem g181_apply (c : Dev nD) (t : Fin 2048) (s : Fin 256) :
    g181 m c (ix2 t s) = if Placed (routes (istg m c)) c t s.val then (1 : EReal) else 0 := by
  obtain ⟨w, hw, he⟩ := pay5_eq (dword c) (istg m c)
  unfold g181
  rw [he, dword_eq]
  exact gate_apply (istg m c) w hw c t s

/-- A slot is one token's at most. -/
theorem placed_inj (r : Fin 2048 → BitVec 32) (c : Fin 8) (t t' : Fin 2048) (s : ℕ) (h : Placed r c t s) (h' : Placed r c t' s) : t = t' := by
  obtain ⟨le, h1, h2, h3⟩ := h
  obtain ⟨le', h1', h2', h3'⟩ := h'
  obtain rfl : le = le' := Fin.ext (by omega)
  have hp := total_pos r _ _ ((hit_iff r t _).mpr h1)
  have hp' := total_pos r _ _ ((hit_iff r t' _).mpr h1')
  exact Fin.ext (total_inj r _ _ _ ((hit_iff r t _).mpr h1) ((hit_iff r t' _).mpr h1') (by omega))
/-- A token has one slot at most. -/
theorem placed_slot (r : Fin 2048 → BitVec 32) (c : Fin 8) (t : Fin 2048) (s s' : ℕ) (h : Placed r c t s) (h' : Placed r c t s') : s = s' := by
  obtain ⟨le, h1, h2, h3⟩ := h
  obtain ⟨le', h1', h2', h3'⟩ := h'
  have hle := congrArg BitVec.toNat (h1.symm.trans h1')
  simp only [BitVec.toNat_ofNat] at hle
  obtain rfl : le = le' := Fin.ext (by have := c.isLt; have := le.isLt; have := le'.isLt; omega)
  rw [h3, h3']

theorem placed_row (c : Dev nD) (t : Fin 2048) (s : Fin 256) (h : Placed (routes (istg m c)) c t s.val) (d : Fin 1024) :
    gat m c s d = tok m c t d := by
  unfold gat XG k0_pay7
  rw [shapeCast_self]
  refine (gather_apply _ _ s d).trans ?_
  rw [Finset.sum_eq_single t]
  · rw [g181_apply, if_pos h, one_mul]; rfl
  · intro t' _ hne
    rw [g181_apply, if_neg fun h' => hne (placed_inj _ c t' t s.val h' h), zero_mul]
  · exact fun h' => absurd (Finset.mem_univ t) h'

theorem ypay_apply (c : Dev nD) (k : Fin 8) (i : Fin 32) (h : Fin 1024) :
    ypay m c k (ix2 i h) = ∑ d : Fin 1024, gat m c ⟨32 * k.val + i.val, by have := k.isLt; have := i.isLt; omega⟩ d * wgt m c k d h := by
  match k with
  | 0 => exact (congrFun (shapeCast_self _ _) _).trans (rows_apply 0 (by omega) _ _ _ _ i h)
  | 1 => exact (congrFun (shapeCast_self _ _) _).trans (rows_apply 32 (by omega) _ _ _ _ i h)
  | 2 => exact (congrFun (shapeCast_self _ _) _).trans (rows_apply 64 (by omega) _ _ _ _ i h)
  | 3 => exact (congrFun (shapeCast_self _ _) _).trans (rows_apply 96 (by omega) _ _ _ _ i h)
  | 4 => exact (congrFun (shapeCast_self _ _) _).trans (rows_apply 128 (by omega) _ _ _ _ i h)
  | 5 => exact (congrFun (shapeCast_self _ _) _).trans (rows_apply 160 (by omega) _ _ _ _ i h)
  | 6 => exact (congrFun (shapeCast_self _ _) _).trans (rows_apply 192 (by omega) _ _ _ _ i h)
  | 7 => exact (congrFun (shapeCast_self _ _) _).trans (rows_apply 224 (by omega) _ _ _ _ i h)

theorem Y_apply (c : Dev nD) (t : Fin 2048) (le : Fin 8) (s : Fin 256) (hs : s.val / 32 = le.val) (h : Placed (routes (istg m c)) c t s.val) (j : Fin 1024) :
    Y m c (ix2 s j) = ∑ d : Fin 1024, tok m c t d * wgt m c le d j := by
  have hk : (⟨s.val / 32, by have := s.isLt; omega⟩ : Fin 8) = le := Fin.ext hs
  refine (ypay_apply m c _ _ j).trans (Finset.sum_congr rfl fun d _ => ?_)
  have hrow : (⟨32 * (s.val / 32) + s.val % 32, by have := s.isLt; omega⟩ : Fin 256) = s := Fin.ext (Nat.div_add_mod _ _)
  refine congrArg₂ (· * ·) ((congrArg (fun r => gat m c r d) hrow).trans (placed_row m c t s h d)) (congrArg (fun k => wgt m c k d j) hk)

/-! ## The contribution -/

/-- The token is routed to expert `e` and is among the first 25 there. -/
def Kept (r : Fin 2048 → BitVec 32) (e : ℕ) (t : Fin 2048) : Prop := r t = BitVec.ofNat 32 e ∧ total r e t.val ≤ 25

open Classical in
/-- The device's contribution to a token: the token's row times the weights of the expert that keeps it, when the device has it. -/
theorem P_apply (c : Dev nD) (t : Fin 2048) (j : Fin 1024) : (show EReal from P m c (ix2 t j))
    = ∑ le : Fin 8, if Kept (routes (istg m c)) (8 * c.val + le.val) t then ∑ d : Fin 1024, tok m c t d * wgt m c le d j else 0 := by
  have hP : P m c (ix2 t j) = ∑ s : Fin 256, g181 m c (ix2 t s) * (show EReal from Y m c (ix2 s j)) := by
    unfold P G k0_pay6
    rw [shapeCast_self]
    exact spread_apply _ _ t j
  refine Eq.trans hP ?_
  by_cases hk : ∃ le : Fin 8, Kept (routes (istg m c)) (8 * c.val + le.val) t
  · obtain ⟨le, h1, h2⟩ := hk
    have hp := total_pos _ _ _ ((hit_iff (routes (istg m c)) t _).mpr h1)
    obtain ⟨s, hs⟩ : ∃ s : Fin 256, s.val = 32 * le.val + (total (routes (istg m c)) (8 * c.val + le.val) t.val - 1) :=
      ⟨⟨_, by have := le.isLt; omega⟩, rfl⟩
    have hpl : Placed (routes (istg m c)) c t s.val := ⟨le, h1, h2, hs⟩
    rw [Finset.sum_eq_single s, Finset.sum_eq_single le]
    · rw [g181_apply, if_pos hpl, one_mul, if_pos ⟨h1, h2⟩]
      exact Y_apply m c t le s (by omega) hpl j
    · intro le' _ hne
      refine if_neg fun h' => hne (Fin.ext ?_)
      have hle := congrArg BitVec.toNat (h1.symm.trans h'.1)
      simp only [BitVec.toNat_ofNat] at hle
      have := c.isLt; have := le.isLt; have := le'.isLt; omega
    · exact fun h' => absurd (Finset.mem_univ le) h'
    · intro s' _ hne
      rw [g181_apply, if_neg fun h' => hne (Fin.ext (placed_slot _ c t _ _ h' hpl)), zero_mul]
    · exact fun h' => absurd (Finset.mem_univ s) h'
  · rw [Finset.sum_eq_zero fun s _ => ?_, Finset.sum_eq_zero fun le _ => if_neg fun h => hk ⟨le, h⟩]
    rw [g181_apply, if_neg, zero_mul]
    rintro ⟨le, h1, h2, -⟩
    exact hk ⟨le, h1, h2⟩

end Cert.Moe

end
-- ==== Proof.RefValue.lean ====
/-
# The reference's value

The reference at an index: over all experts, the token's row times the expert's weights where the expert keeps the token.
-/
module

public import proofs.«01_k».proof.Proof.Expert
public import proofs.«01_k».proof.Proof.Gen.ReferenceIdeal.Run
public import Idealize.ShloMosaic.Lib.Routing.Ops

@[expose] public section

noncomputable section

namespace Cert.Moe

open Cert.ReferenceIdeal Cert.ReferenceIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
omit [FloatOps F]

/-! ## The sum down a column -/

theorem column_numel : (⟨2, ![2048, 1]⟩ : Shape).numel = 2048 := rfl
/-- Position `n` of a window of one column is its row `n`. -/
theorem column_pos (n : Fin (⟨2, ![2048, 1]⟩ : Shape).numel) : (⟨2, ![2048, 1]⟩ : Shape).rowMajor.symm n = ix2 (n.cast column_numel) (0 : Fin 1) :=
  ((⟨2, ![2048, 1]⟩ : Shape).rowMajor.symm_apply_eq).2 (Fin.ext (by
    rw [Shape.rowMajor_val_two]
    show n.val = n.val * 1 + 0
    rw [Nat.mul_one, Nat.add_zero]))

/-- A table of small numbers, summed down its columns. -/
theorem cumsum_apply (x : IVec S2048x64 32) (f : ℕ → ℕ) (e : Fin 64) (hx : ∀ i : Fin 2048, x (ix2 i e) = BitVec.ofNat 32 (f i.val))
    (init : IVec S_ 32) (hinit : ∀ i, init i = 0#32)
    (h : S2048x64.ReduceWindows (![2048, 1] : Fin 2 → Nat) ![1, 1] ![2047, 0] ![0, 0] S2048x64) (hu : 0 < S_.numel) (j : Fin 2048) :
    Host.reduceWindow IntOp.addi ![2048, 1] ![1, 1] ![2047, 0] ![0, 0] x init h hu (ix2 j e) = BitVec.ofNat 32 ((List.range (j.val + 1)).map f).sum := by
  have hv : init (Shape.Idx.first hu) = BitVec.ofNat 32 0 := hinit _
  have hj := j.isLt
  have he := e.isLt
  unfold Host.reduceWindow
  refine (Routing.foldl_addi_ofNat _ _ (fun n => if 2047 ≤ j.val + n.val then f (j.val + n.val - 2047) else 0) (fun n _ => ?_) _ 0 hv).trans ?_
  · have hw0 : ((⟨2, ![2048, 1]⟩ : Shape).rowMajor.symm n 0).val = n.val := by rw [column_pos]; rfl
    have hw : ((⟨2, ![2048, 1]⟩ : Shape).rowMajor.symm n 1).val = 0 := by rw [column_pos]; rfl
    have hn : n.val < 2048 := (n.cast column_numel).isLt
    dsimp only
    split
    · next hin =>
      have h1 := hin 0
      change 2047 ≤ j.val * 1 + ((⟨2, ![2048, 1]⟩ : Shape).rowMajor.symm n 0).val
        ∧ j.val * 1 + ((⟨2, ![2048, 1]⟩ : Shape).rowMajor.symm n 0).val - 2047 < 2048 at h1
      rw [hw0] at h1
      rw [if_pos (by omega)]
      refine (congrArg x (funext fun a => Fin.ext ?_)).trans (hx ⟨j.val + n.val - 2047, by omega⟩)
      match a with
      | ⟨0, _⟩ =>
        show j.val * 1 + ((⟨2, ![2048, 1]⟩ : Shape).rowMajor.symm n 0).val - 2047 = j.val + n.val - 2047
        rw [hw0, Nat.mul_one]
      | ⟨1, _⟩ =>
        show e.val * 1 + ((⟨2, ![2048, 1]⟩ : Shape).rowMajor.symm n 1).val - 0 = e.val
        rw [hw]; omega
    · next hin =>
      rw [if_neg fun hle => hin fun a => by
        match a with
        | ⟨0, _⟩ =>
          show 2047 ≤ j.val * 1 + ((⟨2, ![2048, 1]⟩ : Shape).rowMajor.symm n 0).val
            ∧ j.val * 1 + ((⟨2, ![2048, 1]⟩ : Shape).rowMajor.symm n 0).val - 2047 < 2048
          rw [hw0]; omega
        | ⟨1, _⟩ =>
          show 0 ≤ e.val * 1 + ((⟨2, ![2048, 1]⟩ : Shape).rowMajor.symm n 1).val
            ∧ e.val * 1 + ((⟨2, ![2048, 1]⟩ : Shape).rowMajor.symm n 1).val - 0 < 64
          rw [hw]; omega]
      exact hv
  · rw [Nat.zero_add]
    refine congrArg (BitVec.ofNat 32) ?_
    refine Eq.trans ?_ (Routing.sum_window f 2047 j.val (by omega))
    exact congrArg List.sum (Routing.map_finRange_val 2048 fun w => if 2047 ≤ j.val + w then f (j.val + w - 2047) else 0)

/-! ## The reference -/

section
variable (x : FVec Ideal S2048x1024 .f32) (v : IVec S2048x1 32) (W : FVec Ideal S64x1024x1024 .f32)

/-- Where a token is routed to an expert. -/
def chosen : IVec S2048x64 1 :=
  cmpi .eq (broadcastInDim S2048x64 ![0, 1] bcast_S2048x1_S2048x64_0_1 v)
    (broadcastInDim S2048x64 ![0, 1] bcast_S1x64_S2048x64_0_1 (broadcastInDim S1x64 ![1] bcast_S64_S1x64_1 (iotaInDim S64 32 0)))
/-- How many earlier tokens were routed to the expert. -/
def before : IVec S2048x64 32 :=
  subi (Host.reduceWindow IntOp.addi ![2048, 1] ![1, 1] ![2047, 0] ![0, 0] (extui 32 (chosen v) natLt_1_32)
    (broadcastInDim S_ ![] bcast_S_S_ (constantI S_ 32 0#32)) reduceWindows_S2048x64_S2048x64_w2048s1p2047_0_w1s1p0_0 h_S_) (extui 32 (chosen v) natLt_1_32)
/-- Where an expert keeps a token. -/
def keeps : IVec S2048x64 1 := andi (chosen v) (cmpi .slt (before v) (broadcastInDim S2048x64 ![] bcast_S_S2048x64 (constantI S_ 32 25#32)))
/-- The reference's result. -/
def refVal : FVec Ideal S2048x1024 .f32 :=
  Host.reduceAdd (select (broadcastInDim S2048x64x1024 ![0, 1, 2] bcast_S2048x64x1_S2048x64x1024_0_1_2
    (broadcastInDim S2048x64x1 ![0, 1] bcast_S2048x64_S2048x64x1_0_1 (keeps v)))
    (Host.dotGeneral dot_S2048x1024_S64x1024x1024_S2048x64x1024_1_1_0_02_n_n none x W)
    (broadcastInDim S2048x64x1024 ![] bcast_S_S2048x64x1024 (id (constant S_ .f32 0x00000000#32))))
    (constant S_ .f32 0x00000000#32) reducesTo_S2048x64x1024_S2048x1024_d1 h_S_

theorem chosen_apply (t : Fin 2048) (e : Fin 64) : chosen v (ix2 t e) = BitVec.ofBool (decide (routes v t = BitVec.ofNat 32 e.val)) := by
  unfold chosen
  show IntOp.cmpi .eq (broadcastInDim S2048x64 ![0, 1] bcast_S2048x1_S2048x64_0_1 v (ix2 t e)) _ = _
  rw [broadcastInDim_apply _ _ v (ix2 t e) (ix2 t 0) fun a => by fin_cases a <;> rfl]
  rfl

open Classical in
theorem widened (t : Fin 2048) (e : Fin 64) : extui 32 (chosen v) natLt_1_32 (ix2 t e) = BitVec.ofNat 32 (if hit (routes v) e.val t.val then 1 else 0) := by
  show (chosen v (ix2 t e)).setWidth 32 = _
  rw [chosen_apply]
  by_cases h : routes v t = BitVec.ofNat 32 e.val
  · rw [decide_eq_true h, if_pos ((hit_iff _ t _).mpr h)]; rfl
  · rw [decide_eq_false h, if_neg fun h' => h ((hit_iff _ t _).mp h')]; rfl

/-- Where the token is routed to the expert, the count of earlier ones. -/
theorem before_apply (t : Fin 2048) (e : Fin 64) (h : routes v t = BitVec.ofNat 32 e.val) :
    before v (ix2 t e) = BitVec.ofNat 32 (total (routes v) e.val t.val) - 1#32 := by
  classical
  unfold before
  refine (congrArg₂ IntOp.subi (cumsum_apply _ (fun i => if hit (routes v) e.val i then 1 else 0) e (fun i => widened v i e) _ (fun _ => rfl) _ _ t)
    (widened v t e)).trans ?_
  rw [if_pos ((hit_iff _ t _).mpr h)]
  refine congrArg (fun n => BitVec.ofNat 32 n - 1#32) ?_
  unfold total
  rw [Finset.sum_range]
  rw [← List.sum_ofFn, List.ofFn_eq_map, ← Routing.map_finRange_val]

open Classical in
theorem keeps_apply (t : Fin 2048) (e : Fin 64) : keeps v (ix2 t e) = BitVec.ofBool (decide (Kept (routes v) e.val t)) := by
  unfold keeps
  show (chosen v (ix2 t e) &&& IntOp.cmpi .slt (before v (ix2 t e)) 25#32) = _
  rw [chosen_apply]
  by_cases h : routes v t = BitVec.ofNat 32 e.val
  · have ht := t.isLt
    have hn := total_le (routes v) e.val t.val
    rw [decide_eq_true h, before_apply v t e h, below_25 _ (total_pos _ _ _ ((hit_iff _ t _).mpr h)) (by omega)]
    by_cases h' : total (routes v) e.val t.val ≤ 25
    · rw [decide_eq_true h', decide_eq_true (show Kept _ _ _ from ⟨h, h'⟩)]; rfl
    · rw [decide_eq_false h', decide_eq_false fun hk : Kept _ _ _ => h' hk.2]; rfl
  · rw [decide_eq_false h, decide_eq_false fun hk : Kept _ _ _ => h hk.1]
    rcases BitVec.eq_zero_or_eq_one (IntOp.cmpi .slt (before v (ix2 t e)) 25#32) with h | h <;> rw [h] <;> rfl

theorem dot_apply (t : Fin 2048) (e : Fin 64) (j : Fin 1024) :
    Host.dotGeneral dot_S2048x1024_S64x1024x1024_S2048x64x1024_1_1_0_02_n_n none x W (ix3 t e j) = ∑ d : Fin 1024, x (ix2 t d) * W (ix3 e d j) := by
  show FloatOps.dotGeneral dot_S2048x1024_S64x1024x1024_S2048x64x1024_1_1_0_02_n_n none _ x W (ix3 t e j) = _
  rw [Ideal.dotGeneral_apply, ← Equiv.sum_comp (contrEquiv1 dot_S2048x1024_S64x1024x1024_S2048x64x1024_1_1_0_02_n_n 1024 rfl rfl).symm]
  refine Finset.sum_congr rfl fun d _ => ?_
  have hd := contrEquiv1_symm_val dot_S2048x1024_S64x1024x1024_S2048x64x1024_1_1_0_02_n_n 1024 rfl rfl d
  have el : dot_S2048x1024_S64x1024x1024_S2048x64x1024_1_1_0_02_n_n.lhsIdx (ix3 t e j)
      ((contrEquiv1 dot_S2048x1024_S64x1024x1024_S2048x64x1024_1_1_0_02_n_n 1024 rfl rfl).symm d) = ix2 t d := by
    funext a; apply Fin.ext
    match a with
    | ⟨0, _⟩ => rfl
    | ⟨1, _⟩ => exact hd
  have er : dot_S2048x1024_S64x1024x1024_S2048x64x1024_1_1_0_02_n_n.rhsIdx (ix3 t e j)
      ((contrEquiv1 dot_S2048x1024_S64x1024x1024_S2048x64x1024_1_1_0_02_n_n 1024 rfl rfl).symm d) = ix3 e d j := by
    funext a; apply Fin.ext
    match a with
    | ⟨0, _⟩ => rfl
    | ⟨1, _⟩ => exact hd
    | ⟨2, _⟩ => rfl
  rw [el, er]

open Classical in
/-- The reference at an index. -/
theorem refVal_apply (t : Fin 2048) (j : Fin 1024) :
    refVal x v W (ix2 t j) = ∑ e : Fin 64, if Kept (routes v) e.val t then ∑ d : Fin 1024, x (ix2 t d) * W (ix3 e d j) else 0 := by
  unfold refVal
  show Ideal.hostReduceAdd _ _ _ (ix2 t j) = _
  rw [Ideal.hostReduceAdd_r3_a1]
  refine (congrArg (· + _) Ideal.ofBits_zero_f32).trans ((zero_add _).trans (Finset.sum_congr rfl fun e _ => ?_))
  refine Eq.trans (b := Scalar.select (keeps v (ix2 t e)) (Host.dotGeneral dot_S2048x1024_S64x1024x1024_S2048x64x1024_1_1_0_02_n_n none x W (ix3 t e j))
    (Ideal.ofBits .f32 0x00000000#32)) ?_ ?_
  · refine congrArg (fun b => Scalar.select b _ _) ?_
    rw [broadcastInDim_apply _ _ _ _ (ix3 t e 0) fun a => by fin_cases a <;> rfl,
      broadcastInDim_apply _ _ _ _ (ix2 t e) fun a => by fin_cases a <;> rfl]
  · rw [keeps_apply, dot_apply, Ideal.ofBits_zero_f32]
    by_cases h : Kept (routes v) e.val t
    · rw [decide_eq_true h, if_pos h]; rfl
    · rw [decide_eq_false h, if_neg h]; rfl
end

end Cert.Moe

end
-- ==== Proof.Value.lean ====
/-
# The kernel's result is the reference's

What a device ends with, summed over the eight devices' contributions, is its block of the reference's result.
-/
module

public import proofs.«01_k».proof.Proof.RefValue
public import Idealize.ShloMosaic.Lib.Layout

@[expose] public section

noncomputable section

namespace Cert.Moe

open Cert.KernelIdeal Cert.KernelIdeal.Gen
open Idealize.ShloMosaic hiding ix1 ix2 ix3 ix4
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
omit [FloatOps F]

variable (m : (ℓ : Loc nD τ sig) → Buf (Elt Ideal) ℓ)

/-- A device's result at an index: the eight contributions. -/
theorem outAt_apply (c : Dev nD) (t : Fin 256) (j : Fin 1024) :
    (show EReal from outAt m c (ix2 t j)) = ∑ q : Fin 8, (show EReal from P m q (ix2 (tokRow c t) j)) := by
  rw [Fin.sum_univ_eight]
  have hrow : ∀ q : Fin 8, shapeCast S256x1024 (rv m c q) shapeCasts_S1x256x1024_S256x1024 (ix2 t j) = P m q (ix2 (tokRow c t) j) := fun q =>
    shapeCast_1ab_ab_apply (rv m c q) shapeCasts_S1x256x1024_S256x1024 t j
  exact congrArg₂ (· + ·) (congrArg₂ (· + ·) (congrArg₂ (· + ·) (congrArg₂ (· + ·) (congrArg₂ (· + ·) (congrArg₂ (· + ·) (congrArg₂ (· + ·)
    (hrow 0) (hrow 1)) (hrow 2)) (hrow 3)) (hrow 4)) (hrow 5)) (hrow 6)) (hrow 7)

/-- A sum over the experts, device by device. -/
theorem sum_experts (f : ℕ → EReal) : ∑ q : Fin 8, ∑ le : Fin 8, f (8 * q.val + le.val) = ∑ e : Fin 64, f e.val := by
  rw [← Fintype.sum_prod_type' fun (q le : Fin 8) => f (8 * q.val + le.val), ← Equiv.sum_comp (finProdFinEquiv (m := 8) (n := 8))]
  refine Finset.sum_congr rfl fun p _ => congrArg f ?_
  rw [Nat.add_comm]
  rfl

variable (x : FVec Ideal S2048x1024 .f32) (v : IVec S2048x1 32) (W : FVec Ideal ⟨3, ![64, 1024, 1024]⟩ .f32)

/-- Entry `d`, `j` of expert `e`'s weights. -/
def weight (e : ℕ) (d j : Fin 1024) : EReal := if h : e < 64 then W (ix3 ⟨e, h⟩ d j) else 0

theorem wgt_eq (q : Dev nD) (h2 : m ((q : Thread nD τ).loc main_arg2) = Layout.block ⟨3, ![8, 1024, 1024]⟩ ⟨3, ![64, 1024, 1024]⟩ 0 8 q W)
    (le : Fin 8) (d j : Fin 1024) : wgt m q le d j = weight W (8 * q.val + le.val) d j := by
  have hq := q.isLt
  have hle := le.isLt
  have hlt : 8 * q.val + le.val < 64 := by change q.val < 8 at hq; omega
  unfold weight
  rw [dif_pos hlt]
  refine (congrFun h2 (ix3 le d j)).trans (congrArg W (funext fun a => Fin.ext ?_))
  match a with
  | ⟨0, _⟩ => exact congrArg (· + le.val) (Nat.mul_comm q.val 8)
  | ⟨1, _⟩ => rfl
  | ⟨2, _⟩ => rfl

/-- What a device ends with is its block of the reference's result, when every device has the tokens and the routes and its block of the
    weights. -/
theorem out_block (h0 : ∀ c, xstg m c = x) (h1 : ∀ c, istg m c = v)
    (h2 : ∀ c : Dev nD, m ((c : Thread nD τ).loc main_arg2) = Layout.block ⟨3, ![8, 1024, 1024]⟩ ⟨3, ![64, 1024, 1024]⟩ 0 8 c W) (c : Dev nD) :
    outAt m c = Layout.block ⟨2, ![256, 1024]⟩ ⟨2, ![2048, 1024]⟩ 0 8 c (refVal x v W) := by
  classical
  funext i
  obtain ⟨t, j, rfl⟩ : ∃ (t : Fin 256) (j : Fin 1024), i = ix2 t j := ⟨i 0, i 1, by funext a; fin_cases a <;> rfl⟩
  have hidx : Layout.block ⟨2, ![256, 1024]⟩ ⟨2, ![2048, 1024]⟩ 0 8 c (refVal x v W) (by decide) (ix2 t j) = refVal x v W (ix2 (tokRow c t) j) :=
    congrArg (refVal x v W) (funext fun a => Fin.ext (by
      match a with
      | ⟨0, _⟩ => exact congrArg (· + t.val) (Nat.mul_comm c.val 256)
      | ⟨1, _⟩ => rfl))
  refine Eq.trans ?_ hidx.symm
  rw [refVal_apply]
  refine (outAt_apply m c t j).trans ?_
  let f : ℕ → EReal := fun e => if Kept (routes v) e (tokRow c t) then ∑ d : Fin 1024, x (ix2 (tokRow c t) d) * weight W e d j else 0
  refine Eq.trans (b := ∑ q : Fin 8, ∑ le : Fin 8, f (8 * q.val + le.val)) ?_ ((sum_experts f).trans ?_)
  · refine Finset.sum_congr rfl fun q _ => (P_apply m q (tokRow c t) j).trans (Finset.sum_congr rfl fun le _ => ?_)
    rw [h1 q]
    refine if_congr Iff.rfl (Finset.sum_congr rfl fun d _ => ?_) rfl
    exact congrArg₂ (· * ·) (congrFun (h0 q) (ix2 (tokRow c t) d)) (wgt_eq m W q (h2 q) le d j)
  · refine Finset.sum_congr rfl fun e _ => if_congr Iff.rfl (Finset.sum_congr rfl fun d _ => congrArg (x (ix2 (tokRow c t) d) * ·) ?_) rfl
    exact dif_pos e.isLt

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The two programs' body tables are one: their texts agree. -/
theorem bodies_eq : @Cert.Kernel.defs₀ Bits _ _ = @Cert.KernelIdeal.defs₀ Bits _ _ :=
  congrArg (fun f => Defs.onTc f) (funext fun l => by
    match l with
    | 0 => exact funext fun ⟨t, s⟩ => rfl)

/-- And so are their tables with the pipelines. -/
theorem tables_eq : Cert.Kernel.defs (F := Bits) = Cert.KernelIdeal.defs :=
  congrArg (fun d => Pipeline.defs Cert.KernelIdeal.pcfgs d) bodies_eq

/-- The kernel's frame: it runs to its end without a fault, leaves its arguments as they were and every semaphore counter at
    zero. It is the idealized kernel's run, which is proved over any float values, read at the words. -/
theorem frame_kernel : Cert.quiescent_Kernel := fun m ρ _ => by
  rw [tables_eq]; exact Cert.Moe.run_args (F := Bits) m ρ

/-- The idealized kernel's frame. -/
theorem frame_ideal : Cert.quiescent_KernelIdeal := fun m ρ _ => Cert.Moe.run_args (F := Ideal) m ρ

/-- The reference's frame; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result on every device is its block of the reference's. -/
theorem algebraic : Cert.algebraic_KernelIdeal_ReferenceIdeal := by
  intro m g m' g' _ hm
  refine ⟨Cert.Moe.refVal (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · exact (θ_run _ _ _).mono (fun r h c => ⟨(h.1 c).1.trans (Cert.Moe.out_block m _ _ _ (fun c => (Cert.Moe.xstg_eq m c).trans (hm c).1)
      (fun c => (Cert.Moe.istg_eq m c).trans (hm c).2.1) (fun c => (hm c).2.2) c), (h.1 c).2⟩) (Cert.Moe.run_main (F := Ideal) m g)
  · exact (θ_run _ _ _).mono (fun r h => h 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, algebraic⟩

end Cert.Proof

end
